-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv80" .f32 0x3C4CCCCD#32 ((80⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x84x8400 : Shape := ⟨3, ![16, 84, 8400]⟩
abbrev S16x256x80x80 : Shape := ⟨4, ![16, 256, 80, 80]⟩
abbrev S11289600 : Shape := ⟨1, ![11289600]⟩
abbrev S672000 : Shape := ⟨1, ![672000]⟩
abbrev S4208 : Shape := ⟨1, ![4208]⟩
abbrev S21040 : Shape := ⟨1, ![21040]⟩
abbrev S_ : Shape := ⟨0, ![]⟩
abbrev S16 : Shape := ⟨1, ![16]⟩
abbrev S134400x5 : Shape := ⟨2, ![134400, 5]⟩

abbrev nBuf : Table → Nat
  | .hbm => 5
  | .local .scVector .vmem => 5
  | _ => 0

abbrev bufTy : (tb : Table) → Fin (nBuf tb) → BufTy
  | .hbm, ⟨0, _⟩ => ⟨S16x84x8400, .f32⟩
  | .hbm, ⟨1, _⟩ => ⟨S16x256x80x80, .f32⟩
  | .hbm, ⟨2, _⟩ => ⟨S11289600, .f32⟩
  | .hbm, ⟨3, _⟩ => ⟨S672000, .f32⟩
  | .hbm, ⟨4, _⟩ => ⟨S134400x5, .f32⟩
  | .local .scVector .vmem, ⟨0, _⟩ => ⟨S4208, .f32⟩
  | .local .scVector .vmem, ⟨1, _⟩ => ⟨S4208, .f32⟩
  | .local .scVector .vmem, ⟨2, _⟩ => ⟨S4208, .f32⟩
  | .local .scVector .vmem, ⟨3, _⟩ => ⟨S4208, .f32⟩
  | .local .scVector .vmem, ⟨4, _⟩ => ⟨S21040, .f32⟩
  | _, _ => ⟨S16x84x8400, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c84_i32 : BitVec 32 := 84#32
  let v22 : BitVec 32 := Scalar.muli v18 c84_i32
  let c8400_i32 : BitVec 32 := 8400#32
  let v23 : BitVec 32 := Scalar.muli v22 c8400_i32
  let c2_i32_5 : BitVec 32 := 2#32
  let v19 : BitVec 32 := Scalar.muli c2_i32_5 v18
  let v20 : BitVec 32 := Scalar.subi v1 v19
  let c4192_i32 : BitVec 32 := 4192#32
  let v21 : BitVec 32 := Scalar.muli v20 c4192_i32
  let v24 : BitVec 32 := Scalar.addi v23 v21
  ![v24.toNat]
def k0_off2 (i : grid0.Coords) (c8400_i32_6 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c84_i32 : BitVec 32 := 84#32
  let v22 : BitVec 32 := Scalar.muli v18 c84_i32
  let c8400_i32 : BitVec 32 := 8400#32
  let v23 : BitVec 32 := Scalar.muli v22 c8400_i32
  let c2_i32_5 : BitVec 32 := 2#32
  let v19 : BitVec 32 := Scalar.muli c2_i32_5 v18
  let v20 : BitVec 32 := Scalar.subi v1 v19
  let c4192_i32 : BitVec 32 := 4192#32
  let v21 : BitVec 32 := Scalar.muli v20 c4192_i32
  let v24 : BitVec 32 := Scalar.addi v23 v21
  let v27 : BitVec 32 := Scalar.addi v24 c8400_i32_6
  ![v27.toNat]
@[reducible] def k0_t1_loop : Scf.Loop 32 :=
  let c0_i32_8 : BitVec 32 := 0#32
  let c263_i32 : BitVec 32 := 263#32
  let v49 : BitVec 32 := Scalar.addi c0_i32_8 c263_i32
  let c1_i32_9 : BitVec 32 := 1#32
  ⟨c0_i32_8, v49, c1_i32_9⟩
def k0_off3 (k0_t1 : Fin k0_t1_loop.trips) : Fin 1 → Nat :=
  let c0_i32_8 : BitVec 32 := 0#32
  let c1_i32_9 : BitVec 32 := 1#32
  let arg10 : BitVec 32 := Scf.iv c0_i32_8 c1_i32_9 k0_t1
  let c16_i32 : BitVec 32 := 16#32
  let v53 : BitVec 32 := Scalar.muli arg10 c16_i32
  let v54 : Index := Scalar.indexCast v53
  ![v54.toNat]

def k0_chk1 (v100 : IVec S16 32) : Prop :=
  (∀ a x, ((![v100] : Fin 1 → IVec S16 32) a x).toNat < S21040.size a)
theorem k0_idx1_inb : ∀ (v100 : IVec S16 32) (k0_hw1 : k0_chk1 v100), ∀ a x, ((![v100] : Fin 1 → IVec S16 32) a x).toNat < S21040.size a := fun v100 k0_hw1 => k0_hw1

def k0_chk2 (v102 : IVec S16 32) : Prop :=
  (∀ a x, ((![v102] : Fin 1 → IVec S16 32) a x).toNat < S21040.size a)
theorem k0_idx2_inb : ∀ (v102 : IVec S16 32) (k0_hw2 : k0_chk2 v102), ∀ a x, ((![v102] : Fin 1 → IVec S16 32) a x).toNat < S21040.size a := fun v102 k0_hw2 => k0_hw2

def k0_chk3 (v104 : IVec S16 32) : Prop :=
  (∀ a x, ((![v104] : Fin 1 → IVec S16 32) a x).toNat < S21040.size a)
theorem k0_idx3_inb : ∀ (v104 : IVec S16 32) (k0_hw3 : k0_chk3 v104), ∀ a x, ((![v104] : Fin 1 → IVec S16 32) a x).toNat < S21040.size a := fun v104 k0_hw3 => k0_hw3

def k0_chk4 (v106 : IVec S16 32) : Prop :=
  (∀ a x, ((![v106] : Fin 1 → IVec S16 32) a x).toNat < S21040.size a)
theorem k0_idx4_inb : ∀ (v106 : IVec S16 32) (k0_hw4 : k0_chk4 v106), ∀ a x, ((![v106] : Fin 1 → IVec S16 32) a x).toNat < S21040.size a := fun v106 k0_hw4 => k0_hw4

def k0_chk5 (v108 : IVec S16 32) : Prop :=
  (∀ a x, ((![v108] : Fin 1 → IVec S16 32) a x).toNat < S21040.size a)
theorem k0_idx5_inb : ∀ (v108 : IVec S16 32) (k0_hw5 : k0_chk5 v108), ∀ a x, ((![v108] : Fin 1 → IVec S16 32) a x).toNat < S21040.size a := fun v108 k0_hw5 => k0_hw5
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c8400_i32_11 : BitVec 32 := 8400#32
  let v50 : BitVec 32 := Scalar.muli v18 c8400_i32_11
  let c2_i32_5 : BitVec 32 := 2#32
  let v19 : BitVec 32 := Scalar.muli c2_i32_5 v18
  let v20 : BitVec 32 := Scalar.subi v1 v19
  let c4192_i32 : BitVec 32 := 4192#32
  let v21 : BitVec 32 := Scalar.muli v20 c4192_i32
  let v51 : BitVec 32 := Scalar.addi v50 v21
  let c5_i32_12 : BitVec 32 := 5#32
  let v52 : BitVec 32 := Scalar.muli v51 c5_i32_12
  ![v52.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv80" => some ((80⁻¹ : ℝ) : EReal)
  | _ => none
-- ==== ReferenceIdeal.lean ====
abbrev S16x84x8400 : Shape := ⟨3, ![16, 84, 8400]⟩
abbrev S16x256x80x80 : Shape := ⟨4, ![16, 256, 80, 80]⟩
abbrev S16x4x8400 : Shape := ⟨3, ![16, 4, 8400]⟩
abbrev S16x1x8400 : Shape := ⟨3, ![16, 1, 8400]⟩
abbrev S16x8400 : Shape := ⟨2, ![16, 8400]⟩
abbrev S_ : Shape := ⟨0, ![]⟩
abbrev S16 : Shape := ⟨1, ![16]⟩
abbrev S16x1 : Shape := ⟨2, ![16, 1]⟩
abbrev S16x8400x1 : Shape := ⟨3, ![16, 8400, 1]⟩
abbrev S16x8400x5 : Shape := ⟨3, ![16, 8400, 5]⟩
abbrev S134400x5 : Shape := ⟨2, ![134400, 5]⟩

abbrev nBuf : Space → Nat
  | .hbm => 79
  | .vmem => 0
  | .smem => 0
  | _ => 0

abbrev bufTy : (tb : Table) → Fin (tcTables nBuf tb) → BufTy
  | .hbm, ⟨0, _⟩ => ⟨S16x84x8400, .f32⟩
  | .hbm, ⟨1, _⟩ => ⟨S16x256x80x80, .f32⟩
  | .hbm, ⟨2, _⟩ => ⟨S16x4x8400, .f32⟩
  | .hbm, ⟨3, _⟩ => ⟨S16x1x8400, .f32⟩
  | .hbm, ⟨4, _⟩ => ⟨S16x8400, .f32⟩
  | .hbm, ⟨5, _⟩ => ⟨S16x1x8400, .f32⟩
  | .hbm, ⟨6, _⟩ => ⟨S16x8400, .f32⟩
  | .hbm, ⟨7, _⟩ => ⟨S16x1x8400, .f32⟩
  | .hbm, ⟨8, _⟩ => ⟨S16x8400, .f32⟩
  | .hbm, ⟨9, _⟩ => ⟨S16x1x8400, .f32⟩
  | .hbm, ⟨10, _⟩ => ⟨S16x8400, .f32⟩
  | .hbm, ⟨11, _⟩ => ⟨S_, .f32⟩
  | .hbm, ⟨12, _⟩ => ⟨S16x8400, .f32⟩
  | .hbm, ⟨13, _⟩ => ⟨S16x8400, .f32⟩
  | .hbm, ⟨14, _⟩ => ⟨S_, .f32⟩
  | .hbm, ⟨15, _⟩ => ⟨S16x8400, .f32⟩
  | .hbm, ⟨16, _⟩ => ⟨S16x8400, .f32⟩
  | .hbm, ⟨17, _⟩ => ⟨S16x8400, .f32⟩
  | .hbm, ⟨18, _⟩ => ⟨S16x8400, .f32⟩
  | .hbm, ⟨19, _⟩ => ⟨S16x8400, .f32⟩
  | .hbm, ⟨20, _⟩ => ⟨S16x8400, .f32⟩
  | .hbm, ⟨21, _⟩ => ⟨S_, .f32⟩
  | .hbm, ⟨22, _⟩ => ⟨S16x8400, .f32⟩
  | .hbm, ⟨23, _⟩ => ⟨S16x8400, .f32⟩
  | .hbm, ⟨24, _⟩ => ⟨S_, .f32⟩
  | .hbm, ⟨25, _⟩ => ⟨S16x8400, .f32⟩
  | .hbm, ⟨26, _⟩ => ⟨S16x8400, .f32⟩
  | .hbm, ⟨27, _⟩ => ⟨S_, .f32⟩
  | .hbm, ⟨28, _⟩ => ⟨S16x8400, .f32⟩
  | .hbm, ⟨29, _⟩ => ⟨S16x8400, .f32⟩
  | .hbm, ⟨30, _⟩ => ⟨S_, .f32⟩
  | .hbm, ⟨31, _⟩ => ⟨S16x8400, .f32⟩
  | .hbm, ⟨32, _⟩ => ⟨S16x8400, .f32⟩
  | .hbm, ⟨33, _⟩ => ⟨S16x8400, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S16x8400, .f32⟩
  | .hbm, ⟨38, _⟩ => ⟨S16x8400, .f32⟩
  | .hbm, ⟨39, _⟩ => ⟨S_, .f32⟩
  | .hbm, ⟨40, _⟩ => ⟨S16x8400, .f32⟩
  | .hbm, ⟨41, _⟩ => ⟨S16x8400, .f32⟩
  | .hbm, ⟨42, _⟩ => ⟨S16x8400, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S16x8400, .f32⟩
  | .hbm, ⟨47, _⟩ => ⟨S16x8400, .f32⟩
  | .hbm, ⟨48, _⟩ => ⟨S_, .f32⟩
  | .hbm, ⟨49, _⟩ => ⟨S16x8400, .f32⟩
  | .hbm, ⟨50, _⟩ => ⟨S16x8400, .f32⟩
  | .hbm, ⟨51, _⟩ => ⟨S16x8400, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S16x8400, .f32⟩
  | .hbm, ⟨56, _⟩ => ⟨S16x8400, .f32⟩
  | .hbm, ⟨57, _⟩ => ⟨S_, .f32⟩
  | .hbm, ⟨58, _⟩ => ⟨S16x8400, .f32⟩
  | .hbm, ⟨59, _⟩ => ⟨S16x8400, .f32⟩
  | .hbm, ⟨60, _⟩ => ⟨S16x8400, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S16x8400, .f32⟩
  | .hbm, ⟨65, _⟩ => ⟨S16x8400, .f32⟩
  | .hbm, ⟨66, _⟩ => ⟨S_, .f32⟩
  | .hbm, ⟨67, _⟩ => ⟨S16x8400, .f32⟩
  | .hbm, ⟨68, _⟩ => ⟨S16x8400, .f32⟩
  | .hbm, ⟨69, _⟩ => ⟨S16, .f32⟩
  | .hbm, ⟨70, _⟩ => ⟨S16x1, .f32⟩
  | .hbm, ⟨71, _⟩ => ⟨S16x8400, .f32⟩
  | .hbm, ⟨72, _⟩ => ⟨S16x8400x1, .f32⟩
  | .hbm, ⟨73, _⟩ => ⟨S16x8400x1, .f32⟩
  | .hbm, ⟨74, _⟩ => ⟨S16x8400x1, .f32⟩
  | .hbm, ⟨75, _⟩ => ⟨S16x8400x1, .f32⟩
  | .hbm, ⟨76, _⟩ => ⟨S16x8400x1, .f32⟩
  | .hbm, ⟨77, _⟩ => ⟨S16x8400x5, .f32⟩
  | .hbm, ⟨78, _⟩ => ⟨S134400x5, .f32⟩
  | _, _ => ⟨S16x84x8400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_cst_6 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_cst_8 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_cst_10 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v30 : Ref sig .tc := ⟨.hbm, 59, rfl⟩
abbrev main_v31 : Ref sig .tc := ⟨.hbm, 60, rfl⟩
abbrev main_cst_11 : Ref sig .tc := ⟨.hbm, 61, rfl⟩
abbrev main_cst_12 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩

abbrev nD : Nat := 1
abbrev τ : Topo := Topo.v7x

variable {F : FTy → Type} [FloatOps F]
-- ==== Proof.Scatter.lean ====
/-
  An indexed store of a whole vector, as its lanes' values: sixteen lanes, none masked off, written over what is there
  (not added to it), at indices that are an arithmetic progression of step 5. Element `j` of the base memref afterwards
  is lane `l`'s value when `j = base + 5 l` for one of the sixteen lanes, and what it was otherwise.
-/
module

public import Idealize.ShloMosaic.PureOps.ShapeOps

@[expose] public section

namespace Cert.Proof.Scatter

open Idealize.ShloMosaic

variable {F : FTy → Type} [FloatOps F]

/-- Elements written one after another, at positions no two of which are equal: position `j` ends at the value written
    there, if one was, and at what it was otherwise. -/
theorem foldl_write {ι α β : Type} [DecidableEq β] (p : ι → β) (y : ι → α) (hp : Function.Injective p) (j : β) :
    ∀ (L : List ι) (f : β → α),
      (∀ k ∈ L, p k = j → L.foldl (fun g k => fun j => if j = p k then y k else g j) f j = y k)
        ∧ ((∀ k ∈ L, p k ≠ j) → L.foldl (fun g k => fun j => if j = p k then y k else g j) f j = f j)
  | [], f => ⟨fun _ h => absurd h List.not_mem_nil, fun _ => rfl⟩
  | a :: L, f => by
    obtain ⟨h1, h2⟩ := foldl_write p y hp j L (fun j => if j = p a then y a else f j)
    refine ⟨fun k hk hj => ?_, fun h => ?_⟩
    · rw [List.foldl_cons]
      by_cases hL : k ∈ L
      · exact h1 k hL hj
      · obtain rfl : k = a := (List.mem_cons.mp hk).resolve_right hL
        rw [h2 fun k' hk' he => hL (by rwa [hp (he.trans hj.symm)] at hk')]
        exact if_pos hj.symm
    · rw [List.foldl_cons, h2 fun k hk => h k (List.mem_cons_of_mem _ hk)]
      exact if_neg fun e => h a List.mem_cons_self e.symm

/-- A lane of a sixteen-lane vector, as its index. -/
def lane (l : Fin 16) : (⟨1, ![16]⟩ : Shape).Idx := Shape.ofLane (d := ![16]) l

variable {N : ℕ}

/-- The indexed store at a progression of step 5, element by element. -/
theorem storeIdx_step5 (f : Vec F ⟨1, ![N]⟩ .f32) (idx : IVec ⟨1, ![16]⟩ 32) (v : Vec F ⟨1, ![16]⟩ .f32) (base : ℕ)
    (h : ∀ a x, ((![idx] : Fin 1 → IVec ⟨1, ![16]⟩ 32) a x).toNat < (⟨1, ![N]⟩ : Shape).size a)
    (hidx : ∀ l : Fin 16, (idx (lane l)).toNat = base + 5 * l.val) (j : (⟨1, ![N]⟩ : Shape).Idx) :
    (∀ l : Fin 16, (j 0).val = base + 5 * l.val →
        storeIdx (s := ⟨1, ![N]⟩) (d := ![16]) f ![idx] v (fun _ => 1#1) false h j = v (lane l))
      ∧ ((∀ l : Fin 16, (j 0).val ≠ base + 5 * l.val) →
        storeIdx (s := ⟨1, ![N]⟩) (d := ![16]) f ![idx] v (fun _ => 1#1) false h j = f j) := by
  classical
  have hp : Function.Injective fun l : Fin 16 => idxAt (s := ⟨1, ![N]⟩) (t := ⟨1, ![16]⟩) ![idx] h (lane l) := by
    intro a b hab
    have := congrArg (fun i : (⟨1, ![N]⟩ : Shape).Idx => (i 0).val) hab
    have e : (idx (lane a)).toNat = (idx (lane b)).toNat := this
    rw [hidx, hidx] at e
    exact Fin.ext (by omega)
  have hval (l : Fin 16) : (idxAt (s := ⟨1, ![N]⟩) (t := ⟨1, ![16]⟩) ![idx] h (lane l) 0).val = base + 5 * l.val := hidx l
  have hext (i i' : (⟨1, ![N]⟩ : Shape).Idx) : (∀ a, (i a).val = (i' a).val) ↔ i = i' :=
    ⟨fun e => funext fun a => Fin.ext (e a), fun e a => e ▸ rfl⟩
  have hset : storeIdx (s := ⟨1, ![N]⟩) (d := ![16]) f ![idx] v (fun _ => 1#1) false h
      = (List.finRange 16).foldl (fun g k => fun j => if j = idxAt (s := ⟨1, ![N]⟩) (t := ⟨1, ![16]⟩) ![idx] h (lane k) then v (lane k) else g j) f := by
    unfold storeIdx
    simp only [hext]
    rfl
  obtain ⟨h1, h2⟩ := foldl_write (fun l : Fin 16 => idxAt (s := ⟨1, ![N]⟩) (t := ⟨1, ![16]⟩) ![idx] h (lane l)) (fun l => v (lane l)) hp j
    (List.finRange 16) f
  rw [hset]
  refine ⟨fun l hl => h1 l (List.mem_finRange l) ?_, fun hne => h2 fun l _ e => hne l ?_⟩
  · refine (hext _ _).mp fun a => ?_
    obtain rfl : a = 0 := Subsingleton.elim _ _
    exact (hval l).trans hl.symm
  · exact (congrArg (fun i : (⟨1, ![N]⟩ : Shape).Idx => (i 0).val) e).symm.trans (hval l)

end Cert.Proof.Scatter

end
-- ==== Proof.KernelIdeal.Values.lean ====
/-
  What the kernel computes, as functions of arrays: the offsets its transfers use in closed form, the value of each
  element of the result (`boxes`), and what one trip of a tile's loop does to the tile's output scratch.
-/
module

public import proofs.«01_k».proof.Defs
public import proofs.«01_k».proof.Proof.Scatter
public import proofs.«01_k».proof.Proof.Gen.KernelIdeal
public import proofs.«01_k».proof.Proof.Gen.KernelIdeal.Skeleton

@[expose] public section

noncomputable section

namespace Cert.Proof.KernI

open Cert.KernelIdeal Cert.KernelIdeal.Gen Cert.Proof.Scatter
open Idealize.ShloMosaic

variable {F : FTy → Type} [FloatOps F] [Named F]

/-! ## Offsets -/

/-- Where a tile's first source slice starts: row 0 of its batch, at the half's first candidate. -/
theorem off1_eq : ∀ i : grid0.Coords, k0_off1 i = ![(i 1).val * 705600 + (i 0).val * 4192] := by decide +kernel
/-- Where a tile's slices of rows 1 to 3 start. -/
theorem off2_eq : ∀ (i : grid0.Coords) (r : Fin 3), k0_off2 i (BitVec.ofNat 32 (8400 + 8400 * r.val))
    = ![(i 1).val * 705600 + (i 0).val * 4192 + (8400 + 8400 * r.val)] := by decide +kernel
/-- Where a tile's window of the result starts. -/
theorem off4_eq : ∀ i : grid0.Coords, k0_off4 i = ![(i 1).val * 42000 + (i 0).val * 20960] := by decide +kernel

/-- The batch number a tile computes from its coordinates, as the kernel computes it. -/
def batchWord (i : grid0.Coords) : BitVec 32 :=
  let v1 : BitVec 32 := Scalar.addi (Scalar.muli (BitVec.ofNat 32 (i 1).val) 2#32) (BitVec.ofNat 32 (i 0).val)
  let v2 : BitVec 32 := Scalar.divsi v1 2#32
  let v7 : BitVec 32 := Scalar.subi (Scalar.extui (Scalar.cmpi .sgt v1 0#32)) (Scalar.extui (Scalar.cmpi .slt v1 0#32))
  let v12 : BitVec 32 := Scalar.subi (Scalar.extui (Scalar.cmpi .sgt 2#32 0#32)) (Scalar.extui (Scalar.cmpi .slt 2#32 0#32))
  let v16 : BitVec 1 := Scalar.andi (Scalar.cmpi .ne v7 v12) (Scalar.cmpi .ne (Scalar.remsi v1 2#32) 0#32)
  Scalar.select v16 (Scalar.subi v2 1#32) v2

/-- It is the tile's subcore number. -/
theorem batchWord_eq : ∀ i : grid0.Coords, batchWord i = BitVec.ofNat 32 (i 1).val := by decide +kernel

/-! ## The result's elements -/

/-- Field `k` of one box: the batch number, then the four corner coordinates of the box with centre `(cx, cy)`, width `w`
    and height `h`, each clipped to `[0, 1]`. -/
def field (b : BitVec 32) (cx cy w h : F .f32) (k : ℕ) : F .f32 :=
  match k with
  | 0 => k0_pay1 (F := F) b (lane 0)
  | 1 => k0_pay14 (F := F) (fun _ => cx) (fun _ => w) (lane 0)
  | 2 => k0_pay15 (F := F) (fun _ => cy) (fun _ => h) (lane 0)
  | 3 => k0_pay16 (F := F) (fun _ => cx) (fun _ => w) (lane 0)
  | _ => k0_pay2 (F := F) (k0_pay17 (F := F) (fun _ => cy) (fun _ => h)) (k0_pay18 (F := F)) (lane 0)

/-- The batch number's vector, at a lane, is field 0. -/
theorem pay1_lane (b : BitVec 32) (cx cy w h : F .f32) (x : S16.Idx) : k0_pay1 (F := F) b x = field b cx cy w h 0 := rfl
/-- The lower ends across, at a lane, are field 1. -/
theorem pay14_lane (b : BitVec 32) (cx cy w h : Vec F S16 .f32) (x : S16.Idx) :
    k0_pay14 (F := F) cx w x = field b (cx x) (cy x) (w x) (h x) 1 := rfl
/-- The lower ends down, at a lane, are field 2. -/
theorem pay15_lane (b : BitVec 32) (cx cy w h : Vec F S16 .f32) (x : S16.Idx) :
    k0_pay15 (F := F) cy h x = field b (cx x) (cy x) (w x) (h x) 2 := rfl
/-- The upper ends across, at a lane, are field 3. -/
theorem pay16_lane (b : BitVec 32) (cx cy w h : Vec F S16 .f32) (x : S16.Idx) :
    k0_pay16 (F := F) cx w x = field b (cx x) (cy x) (w x) (h x) 3 := rfl
/-- The upper ends down, at a lane, are field 4. -/
theorem pay17_lane (b : BitVec 32) (cx cy w h : Vec F S16 .f32) (x : S16.Idx) :
    k0_pay2 (F := F) (k0_pay17 (F := F) cy h) (k0_pay18 (F := F)) x = field b (cx x) (cy x) (w x) (h x) 4 := rfl

/-- The element of the flattened input at position `n` (below its size wherever it is used). -/
def srcIx (n : ℕ) : S11289600.Idx := fun a => ⟨n % S11289600.size a, Nat.mod_lt _ (by obtain rfl : a = 0 := Subsingleton.elim _ _; decide)⟩
/-- The element of a row scratch at position `n`. -/
def rowIx (n : ℕ) : S4208.Idx := fun a => ⟨n % S4208.size a, Nat.mod_lt _ (by obtain rfl : a = 0 := Subsingleton.elim _ _; decide)⟩

/-- Position, in the flattened input, of row `r` of batch `b` at candidate `c`. -/
def srcPos (b r c : ℕ) : ℕ := (b * 84 + r) * 8400 + c

/-- The flat result as a function of the flat input `f`: element `5 (8400 b + c) + k` is field `k` of candidate `c`'s box
    in batch `b`. -/
def boxes (f : Vec F S11289600 .f32) : Vec F S672000 .f32 := fun j =>
  let n := (j 0).val
  let b := n / 42000
  let c := n % 42000 / 5
  field (BitVec.ofNat 32 b) (f (srcIx (srcPos b 0 c))) (f (srcIx (srcPos b 1 c))) (f (srcIx (srcPos b 2 c))) (f (srcIx (srcPos b 3 c))) (n % 5)

/-! ## A tile's output scratch -/

/-- A tile's window of boxes as a function of its four row scratches: element `5 c + k` is field `k` of the box whose
    centre, width and height are the four rows' elements `c`. -/
def winBoxes (b : BitVec 32) (f₀ f₁ f₂ f₃ : Vec F S4208 .f32) : Vec F S21040 .f32 := fun j =>
  let c := (j 0).val / 5
  field b (f₀ (rowIx c)) (f₁ (rowIx c)) (f₂ (rowIx c)) (f₃ (rowIx c)) ((j 0).val % 5)

/-- The first `n` elements of the output scratch are their boxes'. -/
def DoneTo (b : BitVec 32) (f₀ f₁ f₂ f₃ : Vec F S4208 .f32) (n : ℕ) (f : Vec F S21040 .f32) : Prop :=
  ∀ j : S21040.Idx, (j 0).val < n → f j = winBoxes b f₀ f₁ f₂ f₃ j

/-- The indices a trip's first indexed store names: `5 l + 80 t` for lane `l`. -/
theorem pay3_lane (t : Fin k0_t1_loop.trips) (l : Fin 16) :
    (k0_pay3 (Scalar.muli (Scf.iv 0#32 1#32 t) 16#32) (lane l)).toNat = 80 * t.val + 5 * l.val := by
  have ht : t.val < 263 := Nat.lt_of_lt_of_le t.isLt k0_t1_abs.2.1
  have hl := l.isLt
  have e : k0_pay3 (Scalar.muli (Scf.iv 0#32 1#32 t) 16#32) (lane l)
      = BitVec.ofNat 32 (0 * 16 + l.val) * 5#32 + (0#32 + BitVec.ofNat 32 t.val * 1#32) * 16#32 * 5#32 := by
    rfl
  rw [e]
  simp only [BitVec.toNat_add, BitVec.toNat_mul, BitVec.toNat_ofNat]
  omega

/-- The second store's indices are the first's plus 1. -/
theorem pay4_lane (v : IVec S16 32) (x : S16.Idx) (h : (v x).toNat < 2 ^ 31) : (k0_pay4 v x).toNat = (v x).toNat + 1 := by
  show (v x + 1#32).toNat = _
  rw [BitVec.toNat_add, BitVec.toNat_ofNat]; omega
/-- The third store's indices are the first's plus 2. -/
theorem pay5_lane (v : IVec S16 32) (x : S16.Idx) (h : (v x).toNat < 2 ^ 31) : (k0_pay5 v x).toNat = (v x).toNat + 2 := by
  show (v x + 2#32).toNat = _
  rw [BitVec.toNat_add, BitVec.toNat_ofNat]; omega
/-- The fourth store's indices are the first's plus 3. -/
theorem pay6_lane (v : IVec S16 32) (x : S16.Idx) (h : (v x).toNat < 2 ^ 31) : (k0_pay6 v x).toNat = (v x).toNat + 3 := by
  show (v x + 3#32).toNat = _
  rw [BitVec.toNat_add, BitVec.toNat_ofNat]; omega
/-- The fifth store's indices are the first's plus 4. -/
theorem pay7_lane (v : IVec S16 32) (x : S16.Idx) (h : (v x).toNat < 2 ^ 31) : (k0_pay7 v x).toNat = (v x).toNat + 4 := by
  show (v x + 4#32).toNat = _
  rw [BitVec.toNat_add, BitVec.toNat_ofNat]; omega

/-- Every lane of a sixteen-lane vector is one of the sixteen. -/
theorem eq_lane (x : S16.Idx) : ∃ l : Fin 16, x = lane l :=
  ⟨x 0, funext fun a => by obtain rfl : a = 0 := Subsingleton.elim _ _; rfl⟩

/-- The base index vector of trip `t`, and its four translates. -/
abbrev base (t : Fin k0_t1_loop.trips) : IVec S16 32 := k0_pay3 (Scalar.muli (Scf.iv 0#32 1#32 t) 16#32)

section Trip

variable (t : Fin k0_t1_loop.trips)

/-- A trip's number is below 263. -/
theorem trip_lt : t.val < 263 := Nat.lt_of_lt_of_le t.isLt k0_t1_abs.2.1

/-- The first store's index at a lane. -/
theorem base_lane (l : Fin 16) : (base t (lane l)).toNat = 80 * t.val + 5 * l.val := pay3_lane t l
/-- An index of the first store is below 2^31. -/
theorem base_small (l : Fin 16) : (base t (lane l)).toNat < 2 ^ 31 := by
  rw [base_lane]; have := trip_lt t; have := l.isLt; omega
/-- The second store's index at a lane. -/
theorem base4_lane (l : Fin 16) : (k0_pay4 (base t) (lane l)).toNat = (80 * t.val + 1) + 5 * l.val := by
  rw [pay4_lane _ _ (base_small t l), base_lane]; omega
/-- The third store's index at a lane. -/
theorem base5_lane (l : Fin 16) : (k0_pay5 (base t) (lane l)).toNat = (80 * t.val + 2) + 5 * l.val := by
  rw [pay5_lane _ _ (base_small t l), base_lane]; omega
/-- The fourth store's index at a lane. -/
theorem base6_lane (l : Fin 16) : (k0_pay6 (base t) (lane l)).toNat = (80 * t.val + 3) + 5 * l.val := by
  rw [pay6_lane _ _ (base_small t l), base_lane]; omega
/-- The fifth store's index at a lane. -/
theorem base7_lane (l : Fin 16) : (k0_pay7 (base t) (lane l)).toNat = (80 * t.val + 4) + 5 * l.val := by
  rw [pay7_lane _ _ (base_small t l), base_lane]; omega

/-- An index vector whose lanes are such a progression stays inside the output scratch. -/
theorem inb_of_lanes (v : IVec S16 32) (k : ℕ) (hk : k ≤ 4) (h : ∀ l : Fin 16, (v (lane l)).toNat = (80 * t.val + k) + 5 * l.val) :
    ∀ a x, ((![v] : Fin 1 → IVec S16 32) a x).toNat < S21040.size a := by
  intro a x
  obtain rfl : a = 0 := Subsingleton.elim _ _
  obtain ⟨l, rfl⟩ := eq_lane x
  show (v (lane l)).toNat < 21040
  rw [h]; have := trip_lt t; have := l.isLt; omega

/-- The first store's indices are within the scratch. -/
theorem chk1 : k0_chk1 (base t) := inb_of_lanes t _ 0 (by omega) fun l => by rw [base_lane]; omega
/-- The second store's indices are within the scratch. -/
theorem chk2 : k0_chk2 (k0_pay4 (base t)) := inb_of_lanes t _ 1 (by omega) (base4_lane t)
/-- The third store's indices are within the scratch. -/
theorem chk3 : k0_chk3 (k0_pay5 (base t)) := inb_of_lanes t _ 2 (by omega) (base5_lane t)
/-- The fourth store's indices are within the scratch. -/
theorem chk4 : k0_chk4 (k0_pay6 (base t)) := inb_of_lanes t _ 3 (by omega) (base6_lane t)
/-- The fifth store's indices are within the scratch. -/
theorem chk5 : k0_chk5 (k0_pay7 (base t)) := inb_of_lanes t _ 4 (by omega) (base7_lane t)

/-- The sixteen elements a trip loads of a row scratch. -/
def loaded (f : Vec F S4208 .f32) : Vec F S16 .f32 := fun x => f (rowIx (16 * t.val + (x 0).val))

/-- The output scratch after a trip's five indexed stores, from its contents before. -/
def tripStores (b : BitVec 32) (v₀ v₁ v₂ v₃ : Vec F S16 .f32) (f : Vec F S21040 .f32)
    (h₁ : k0_chk1 (base t)) (h₂ : k0_chk2 (k0_pay4 (base t))) (h₃ : k0_chk3 (k0_pay5 (base t)))
    (h₄ : k0_chk4 (k0_pay6 (base t))) (h₅ : k0_chk5 (k0_pay7 (base t))) : Vec F S21040 .f32 :=
  storeIdx (s := S21040) (d := ![16])
    (storeIdx (s := S21040) (d := ![16])
      (storeIdx (s := S21040) (d := ![16])
        (storeIdx (s := S21040) (d := ![16])
          (storeIdx (s := S21040) (d := ![16]) f ![base t] (k0_pay1 (F := F) b) (fun _ => 1#1) false (k0_idx1_inb _ h₁))
          ![k0_pay4 (base t)] (k0_pay14 v₀ v₂) (fun _ => 1#1) false (k0_idx2_inb _ h₂))
        ![k0_pay5 (base t)] (k0_pay15 v₁ v₃) (fun _ => 1#1) false (k0_idx3_inb _ h₃))
      ![k0_pay6 (base t)] (k0_pay16 v₀ v₂) (fun _ => 1#1) false (k0_idx4_inb _ h₄))
    ![k0_pay7 (base t)] (k0_pay2 (k0_pay17 v₁ v₃) (k0_pay18 (F := F))) (fun _ => 1#1) false (k0_idx5_inb _ h₅)

/-- A trip fills the next eighty elements and leaves the ones before as they were. -/
theorem tripStores_done (b : BitVec 32) (f₀ f₁ f₂ f₃ : Vec F S4208 .f32) (f : Vec F S21040 .f32)
    (h₁ : k0_chk1 (base t)) (h₂ : k0_chk2 (k0_pay4 (base t))) (h₃ : k0_chk3 (k0_pay5 (base t)))
    (h₄ : k0_chk4 (k0_pay6 (base t))) (h₅ : k0_chk5 (k0_pay7 (base t)))
    (hf : DoneTo b f₀ f₁ f₂ f₃ (80 * t.val) f) :
    DoneTo b f₀ f₁ f₂ f₃ (80 * (t.val + 1))
      (tripStores t b (loaded t f₀) (loaded t f₁) (loaded t f₂) (loaded t f₃) f h₁ h₂ h₃ h₄ h₅) := by
  intro j hj
  have ht := trip_lt t
  have s₁ (g : Vec F S21040 .f32) := storeIdx_step5 (N := 21040) g (base t) (k0_pay1 (F := F) b) (80 * t.val) (k0_idx1_inb _ h₁) (base_lane t) j
  have s₂ (g : Vec F S21040 .f32) := storeIdx_step5 (N := 21040) g (k0_pay4 (base t)) (k0_pay14 (loaded t f₀) (loaded t f₂)) (80 * t.val + 1) (k0_idx2_inb _ h₂) (base4_lane t) j
  have s₃ (g : Vec F S21040 .f32) := storeIdx_step5 (N := 21040) g (k0_pay5 (base t)) (k0_pay15 (loaded t f₁) (loaded t f₃)) (80 * t.val + 2) (k0_idx3_inb _ h₃) (base5_lane t) j
  have s₄ (g : Vec F S21040 .f32) := storeIdx_step5 (N := 21040) g (k0_pay6 (base t)) (k0_pay16 (loaded t f₀) (loaded t f₂)) (80 * t.val + 3) (k0_idx4_inb _ h₄) (base6_lane t) j
  have s₅ (g : Vec F S21040 .f32) := storeIdx_step5 (N := 21040) g (k0_pay7 (base t)) (k0_pay2 (k0_pay17 (loaded t f₁) (loaded t f₃)) (k0_pay18 (F := F))) (80 * t.val + 4) (k0_idx5_inb _ h₅) (base7_lane t) j
  unfold tripStores
  by_cases hlt : (j 0).val < 80 * t.val
  · rw [(s₅ _).2 fun l => by omega, (s₄ _).2 fun l => by omega, (s₃ _).2 fun l => by omega, (s₂ _).2 fun l => by omega,
      (s₁ _).2 fun l => by omega]
    exact hf j hlt
  · obtain ⟨l, k, hk, hjl⟩ : ∃ (l : Fin 16) (k : ℕ), k < 5 ∧ (j 0).val = 80 * t.val + k + 5 * l.val :=
      ⟨⟨((j 0).val - 80 * t.val) / 5, by omega⟩, ((j 0).val - 80 * t.val) % 5, Nat.mod_lt _ (by norm_num), by
        show _ = 80 * t.val + _ + 5 * (((j 0).val - 80 * t.val) / 5)
        omega⟩
    have hl := l.isLt
    have hdiv : (j 0).val / 5 = 16 * t.val + l.val := by omega
    have hmod : (j 0).val % 5 = k := by omega
    have hw : winBoxes b f₀ f₁ f₂ f₃ j
        = field b (loaded t f₀ (lane l)) (loaded t f₁ (lane l)) (loaded t f₂ (lane l)) (loaded t f₃ (lane l)) k := by
      show field b (f₀ (rowIx ((j 0).val / 5))) (f₁ (rowIx ((j 0).val / 5))) (f₂ (rowIx ((j 0).val / 5))) (f₃ (rowIx ((j 0).val / 5))) ((j 0).val % 5) = _
      rw [hdiv, hmod]
      rfl
    rw [hw]
    obtain rfl | rfl | rfl | rfl | rfl : k = 0 ∨ k = 1 ∨ k = 2 ∨ k = 3 ∨ k = 4 := by omega
    · rw [(s₅ _).2 fun l => by omega, (s₄ _).2 fun l => by omega, (s₃ _).2 fun l => by omega, (s₂ _).2 fun l => by omega,
        (s₁ _).1 l (by omega)]
      exact pay1_lane _ _ _ _ _ _
    · rw [(s₅ _).2 fun l => by omega, (s₄ _).2 fun l => by omega, (s₃ _).2 fun l => by omega, (s₂ _).1 l (by omega)]
      exact pay14_lane _ _ (loaded t f₁) _ (loaded t f₃) _
    · rw [(s₅ _).2 fun l => by omega, (s₄ _).2 fun l => by omega, (s₃ _).1 l (by omega)]
      exact pay15_lane _ (loaded t f₀) _ (loaded t f₂) _ _
    · rw [(s₅ _).2 fun l => by omega, (s₄ _).1 l (by omega)]
      exact pay16_lane _ _ (loaded t f₁) _ (loaded t f₃) _
    · rw [(s₅ _).1 l (by omega)]
      exact pay17_lane _ (loaded t f₀) _ (loaded t f₂) _ _

end Trip

/-! ## From the window to the result -/

/-- A tile's window of boxes is its window of the result, when its row scratches hold the slices of the input that the
    tile copies in. -/
theorem winBoxes_eq (f : Vec F S11289600 .f32) (i : grid0.Coords) (f₀ f₁ f₂ f₃ : Vec F S4208 .f32)
    (h₀ : ∀ x : S4208.Idx, f₀ x = f (srcIx (srcPos (i 1).val 0 ((i 0).val * 4192 + (x 0).val))))
    (h₁ : ∀ x : S4208.Idx, f₁ x = f (srcIx (srcPos (i 1).val 1 ((i 0).val * 4192 + (x 0).val))))
    (h₂ : ∀ x : S4208.Idx, f₂ x = f (srcIx (srcPos (i 1).val 2 ((i 0).val * 4192 + (x 0).val))))
    (h₃ : ∀ x : S4208.Idx, f₃ x = f (srcIx (srcPos (i 1).val 3 ((i 0).val * 4192 + (x 0).val))))
    (j : S21040.Idx) (g : S672000.Idx) (hg : (g 0).val = (i 1).val * 42000 + (i 0).val * 20960 + (j 0).val) :
    winBoxes (BitVec.ofNat 32 (i 1).val) f₀ f₁ f₂ f₃ j = boxes f g := by
  have hj : (j 0).val < 21040 := (j 0).isLt
  have hi0 : (i 0).val < 2 := (i 0).isLt
  have hx (c : ℕ) (hc : c < 4208) : ((rowIx c) 0).val = c := Nat.mod_eq_of_lt hc
  have hc : (j 0).val / 5 < 4208 := by omega
  have e1 : (g 0).val / 42000 = (i 1).val := by omega
  have e2 : (g 0).val % 42000 / 5 = (i 0).val * 4192 + (j 0).val / 5 := by omega
  have e3 : (g 0).val % 5 = (j 0).val % 5 := by omega
  unfold winBoxes boxes
  dsimp only
  rw [h₀, h₁, h₂, h₃, hx _ hc, e1, e2, e3]

end Cert.Proof.KernI

end
-- ==== Proof.KernelIdeal.Setup.lean ====
/-
  The launch as the proof sees it: the ghost state, the buffers and cells a tile uses, and what the TensorCore's call
  hands each tile and takes back.

  A tile reads four rows of its batch out of the whole input, so each tile is dealt a read share of the whole input. The
  windows of the result that the two tiles of one batch write overlap in 80 words (both compute the same 16 boxes), so no tile
  can own its window. The result is instead held in write mode (the library's `WriteMode`): every element has an agreed
  target, the value `boxes` names, each SparseCore holds half of every element's share, and a tile hands its window back with
  every element marked written.
-/
module

public import proofs.«01_k».proof.Defs
public import proofs.«01_k».proof.Proof.KernelIdeal.Values
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.WriteMode
public import Idealize.ShloMosaic.Lib.Batch
public import Idealize.ShloMosaic.Lib.Tactic

@[expose] public section

noncomputable section

namespace Cert.Proof.KernI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

/-- The labels, the configuration, the definitions and the variants that the launch theorem is applied at. -/
abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions: the handshakes' semaphores are distinct, unscoped, and nothing of a SparseCore's is shared by tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' rounds, write mode, and the transfers' counters. -/
abbrev UH : Type := URounds (GSem nD τ sig) ℕ
/-- Write mode's part of the ghost state. -/
abbrev UW (F : FTy → Type) : Type := WmRA nD τ sig (Elt F)
/-- The whole of it. -/
abbrev UU (F : FTy → Type) : Type := UH × (UW F × Counters)

local notation "𝕄" => MT nD τ sig (HIx 1) (Elt F) ℕ (UU F) ℕ

/-- Where the handshakes' rounds sit. -/
abbrev EH : Emb UH (MT nD τ sig (HIx 1) (Elt F) ℕ (UU F) ℕ) := embL
/-- Where write mode sits. -/
abbrev emb : UEmb (UW F) (UU F) := UEmb.inl.trans UEmb.inr
/-- Where the counters sit. -/
abbrev EC : UEmb Counters (MT nD τ sig (HIx 1) (Elt F) ℕ (UU F) ℕ) := countersEmb

/-- Write mode is in force: its invariant is allocated at some name. -/
def wmOn : sProp 𝕄 := iprop(∃ ι : ℕ, wmInv (emb (F := F)) ι)

/-! ## Buffers -/

/-- The call's input and output, as a tile addresses them. -/
abbrev aIn : Memref sig .scVector .hbm S11289600 .f32 := Memref.whole main_v0_scv
abbrev aOut : Memref sig .scVector .hbm S672000 .f32 := Memref.whole main_v1_scv
/-- The four row scratches and the output scratch. -/
abbrev s0 : Memref sig .scVector .vmem S4208 .f32 := Memref.whole cc0_scratch0
abbrev s1 : Memref sig .scVector .vmem S4208 .f32 := Memref.whole cc0_scratch1
abbrev s2 : Memref sig .scVector .vmem S4208 .f32 := Memref.whole cc0_scratch2
abbrev s3 : Memref sig .scVector .vmem S4208 .f32 := Memref.whole cc0_scratch3
abbrev s4 : Memref sig .scVector .vmem S21040 .f32 := Memref.whole cc0_scratch4

/-- The call's input and output locations. -/
abbrev inLoc (d : Dev nD) : Loc nD τ sig := (SparseCore.T d).loc main_v0
abbrev outLoc (d : Dev nD) : Loc nD τ sig := (SparseCore.T d).loc main_v1

/-- A tile's SparseCore and subcore. -/
abbrev cV (L : grid0.Coords) : Fin τ.nSC := (L 0).castLE hcore0
abbrev jV (L : grid0.Coords) : Fin τ.nSub := (L 1).castLE hsub0
/-- The thread of the tile at coordinates `L`. -/
abbrev tile (d : Dev nD) (L : grid0.Coords) : Thread nD τ := V d (cV L) (jV L)

/-- The slice of row 0 that a tile reads. -/
abbrev in0 (L : grid0.Coords) : Memref sig .scVector .hbm S4208 .f32 :=
  aIn.slice (Rect.unit (s := S11289600) (k0_off1 L) S4208.size (k0_off1_inb L)) (fun _ => rfl)
/-- The slices of rows 1 to 3 that it reads. -/
abbrev in1 (L : grid0.Coords) : Memref sig .scVector .hbm S4208 .f32 :=
  aIn.slice (Rect.unit (s := S11289600) (k0_off2 L 8400#32) S4208.size (k0_off2_inb L 0)) (fun _ => rfl)
abbrev in2 (L : grid0.Coords) : Memref sig .scVector .hbm S4208 .f32 :=
  aIn.slice (Rect.unit (s := S11289600) (k0_off2 L 16800#32) S4208.size (k0_off2_inb L 1)) (fun _ => rfl)
abbrev in3 (L : grid0.Coords) : Memref sig .scVector .hbm S4208 .f32 :=
  aIn.slice (Rect.unit (s := S11289600) (k0_off2 L 25200#32) S4208.size (k0_off2_inb L 2)) (fun _ => rfl)
/-- The tile's window of the result. -/
abbrev win (L : grid0.Coords) : Memref sig .scVector .hbm S21040 .f32 :=
  aOut.slice (Rect.unit (s := S672000) (k0_off4 L) S21040.size (k0_off4_inb L)) (fun _ => rfl)
/-- The elements of a tile's window. -/
abbrev winSet (L : grid0.Coords) : Finset S672000.Idx := (win L).view.set

/-- The tile's coordinates from its SparseCore and subcore numbers. -/
def coordsV (c : Fin (grid0.bound 0)) (i : Fin (grid0.bound 1)) : grid0.Coords :=
  fun | 0 => c | 1 => i | ⟨_ + 2, h⟩ => absurd h (Nat.not_lt.2 (Nat.le_add_left _ _))

/-! ## What the call carries -/

/-- SparseCore `c`'s half of a result element's share. -/
def halfShare (c : ℕ) : PosShare TreeShare := if c = 0 then fullShare.left else fullShare.right
/-- The read share of the input dealt to tile `(c, i)`. -/
def inShare (c : Fin 2) (i : Fin 16) : PosShare TreeShare :=
  Transfers.dealOf (Transfers.dealOf fullShare Finset.univ c) Finset.univ i

-- the input's contents when the call is made, and the result array's before it
variable (fi : (d : Dev nD) → Buf (Elt F) (inLoc d)) (fo : (d : Dev nD) → Buf (Elt F) (outLoc d))

/-- The agreed target of each element of the result. -/
def target (d : Dev nD) : Tgt (Elt F) (outLoc d) := fun i => some (boxes (F := F) (fi d) i)

/-- Elements `I` of the result in write mode at share `q`, those of `W` written. -/
abbrev outWm (d : Dev nD) (I : Finset S672000.Idx) (q : PosShare TreeShare) (W : Finset S672000.Idx) : sProp 𝕄 :=
  willBeTo (emb (F := F)) (outLoc d) I q (fo d) (target fi d) W

/-- A read share of the whole input. -/
abbrev inPts (d : Dev nD) (q : PosShare TreeShare) : sProp 𝕄 := inLoc d ↦{q} fi d

/-- A tile is handed its read share of the input and its window, nothing in it written, … -/
def goL (d : Dev nD) (L : grid0.Coords) (q : PosShare TreeShare) : sProp 𝕄 :=
  iprop(inPts fi d q ∗ outWm fi fo d (winSet L) (halfShare (L 0).val) ∅)
/-- … and hands them back with the window written. -/
def tdL (d : Dev nD) (L : grid0.Coords) (q : PosShare TreeShare) : sProp 𝕄 :=
  iprop(inPts fi d q ∗ outWm fi fo d (winSet L) (halfShare (L 0).val) (winSet L))

/-- What a tile is handed can be stored. -/
instance goL_storable (d : Dev nD) (L : grid0.Coords) (q : PosShare TreeShare) : BI.Storable (upEmb : UEmb _ 𝕄) (goL fi fo d L q) := by
  unfold goL; infer_instance
/-- What a tile hands back can be stored. -/
instance tdL_storable (d : Dev nD) (L : grid0.Coords) (q : PosShare TreeShare) : BI.Storable (upEmb : UEmb _ 𝕄) (tdL fi fo d L q) := by
  unfold tdL; infer_instance

/-- A SparseCore is handed its sixteen tiles' parts together, … -/
def goC (d : Dev nD) (c : Fin 2) : sProp 𝕄 :=
  bigSep (Finset.univ : Finset (Fin 16)) fun i => goL fi fo d (coordsV c i) (inShare c i)
/-- … and hands them back together. -/
def tdC (d : Dev nD) (c : Fin 2) : sProp 𝕄 :=
  bigSep (Finset.univ : Finset (Fin 16)) fun i => tdL fi fo d (coordsV c i) (inShare c i)

/-- What a SparseCore is handed can be stored. -/
instance goC_storable (d : Dev nD) (c : Fin 2) : BI.Storable (upEmb : UEmb _ 𝕄) (goC fi fo d c) := by
  haveI (i : Fin 16) := goL_storable fi fo d (coordsV c i) (inShare c i)
  unfold goC; exact BI.Storable.bigSep _ _ _
/-- What a SparseCore hands back can be stored. -/
instance tdC_storable (d : Dev nD) (c : Fin 2) : BI.Storable (upEmb : UEmb _ 𝕄) (tdC fi fo d c) := by
  haveI (i : Fin 16) := tdL_storable fi fo d (coordsV c i) (inShare c i)
  unfold tdC; exact BI.Storable.bigSep _ _ _

/-- The one call's payloads. A SparseCore's is its sixteen tiles' together; every thread knows write mode to be in force. -/
def P : (K (F := F)).Pay (nD := nD) (Val := Elt F) (Name := ℕ) (U := UU F) where
  st := fun q d c => match q with | 0 => goC fi fo d c
  dn := fun q d c => match q with | 0 => tdC fi fo d c
  go := fun q d c i => match q with | 0 => goL fi fo d (coordsV c i) (inShare c i)
  td := fun q d c i => match q with | 0 => tdL fi fo d (coordsV c i) (inShare c i)
  x := fun _ _ => wmOn

/-- Everything the handshakes carry can be stored. -/
instance P_storable : (P (F := F) fi fo).IsStorable where
  st q d c := match q with | 0 => goC_storable fi fo d c
  dn q d c := match q with | 0 => tdC_storable fi fo d c
  go q d c i := match q with | 0 => goL_storable fi fo d (coordsV c i) (inShare c i)
  td q d c i := match q with | 0 => tdL_storable fi fo d (coordsV c i) (inShare c i)

end Cert.Proof.KernI

end
-- ==== Proof.KernelIdeal.Trip.lean ====
/-
  One trip of a tile's loop, at symbolic coordinates.
-/
module

public import proofs.«01_k».proof.Defs
public import proofs.«01_k».proof.Proof.KernelIdeal.Setup

@[expose] public section

noncomputable section

namespace Cert.Proof.KernI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ (UU F) ℕ

variable (d : Dev nD) (L : grid0.Coords)

/-- The tile's scratches: the four rows at `f₀` … `f₃`, the output at `g`. -/
def scrPts (f₀ f₁ f₂ f₃ : Vec F S4208 .f32) (g : Vec F S21040 .f32) : sProp 𝕄 :=
  iprop(((s0).view.loc (tile d L) ↦{fullShare} f₀) ∗ ((s1).view.loc (tile d L) ↦{fullShare} f₁)
    ∗ ((s2).view.loc (tile d L) ↦{fullShare} f₂) ∗ ((s3).view.loc (tile d L) ↦{fullShare} f₃)
    ∗ (s4).view.loc (tile d L) ↦{fullShare} g)

/-- The element of a row scratch that lane `x` of trip `t`'s loads reads. -/
theorem row_idx (t : Fin k0_t1_loop.trips) (x : S16.Idx) :
    (Rect.unit (s := S4208) (k0_off3 t) S16.size (k0_off3_inb t)).toLoadRect.idx x = rowIx (16 * t.val + (x 0).val) := by
  have ht := trip_lt t
  have hx : (x 0).val < 16 := (x 0).isLt
  funext a; obtain rfl : a = 0 := Subsingleton.elim _ _
  apply Fin.ext
  rw [LoadRect.idx_apply]
  show (k0_off3 t) 0 + 1 * (x 0).val = (16 * t.val + (x 0).val) % 4208
  rw [k0_off3_eq]
  show 16 * t.val + 1 * (x 0).val = _
  rw [Nat.mod_eq_of_lt (by omega), Nat.one_mul]

/-- What a trip loads from row scratch 0 is the trip's sixteen elements of it. -/
theorem read_s0 (t : Fin k0_t1_loop.trips) (f : Vec F S4208 .f32) :
    (s0).view.readAt (Elt F) (Rect.unit (s := S4208) (k0_off3 t) S16.size (k0_off3_inb t)).toLoadRect f = loaded t f := by
  funext x; rw [View.readAt_apply]; exact congrArg f (row_idx t x)
/-- What a trip loads from row scratch 1 is the trip's sixteen elements of it. -/
theorem read_s1 (t : Fin k0_t1_loop.trips) (f : Vec F S4208 .f32) :
    (s1).view.readAt (Elt F) (Rect.unit (s := S4208) (k0_off3 t) S16.size (k0_off3_inb t)).toLoadRect f = loaded t f := by
  funext x; rw [View.readAt_apply]; exact congrArg f (row_idx t x)
/-- What a trip loads from row scratch 2 is the trip's sixteen elements of it. -/
theorem read_s2 (t : Fin k0_t1_loop.trips) (f : Vec F S4208 .f32) :
    (s2).view.readAt (Elt F) (Rect.unit (s := S4208) (k0_off3 t) S16.size (k0_off3_inb t)).toLoadRect f = loaded t f := by
  funext x; rw [View.readAt_apply]; exact congrArg f (row_idx t x)
/-- What a trip loads from row scratch 3 is the trip's sixteen elements of it. -/
theorem read_s3 (t : Fin k0_t1_loop.trips) (f : Vec F S4208 .f32) :
    (s3).view.readAt (Elt F) (Rect.unit (s := S4208) (k0_off3 t) S16.size (k0_off3_inb t)).toLoadRect f = loaded t f := by
  funext x; rw [View.readAt_apply]; exact congrArg f (row_idx t x)

/-- An indexed store into the output scratch, held whole. -/
theorem wp_store_s4 {α : Type} {Q : α → sProp 𝕄} {idxs : Fin S21040.rank → IVec S16 32} {v : Vec F S16 .f32} {mask : IVec S16 1}
    {h : ∀ a x, (idxs a x).toNat < S21040.size a} {hs : ((s4).access (.whole S21040)).Stores Finset.univ}
    {k : PUnit → Prog (TpuEff nD τ sig (Elt F) Λ₀ (.scVector (cV L) (jV L))) α} {g : Vec F S21040 .f32} :
    ((s4).view.loc (tile d L) ↦{fullShare} g)
      ⊢ iprop((((s4).view.loc (tile d L) ↦{fullShare} storeIdx (s := S21040) (d := ![16]) g idxs v mask false h)
          -∗ wp frame (wpE (defs₀ (F := F)) 𝒱₀ (tile d L) none) Set.univ (k ⟨⟩) Q)
        -∗ wp frame (wpE (defs₀ (F := F)) 𝒱₀ (tile d L) none) Set.univ (SparseCore.vectorStoreIdx s4 idxs v mask false h hs >>= k) Q) := by
  have H := SparseCore.wp_vectorStoreIdx (defs := defs₀ (F := F)) 𝒱₀ (tile d L) none Set.univ (Q := Q) (base := s4) (idxs := idxs) (v := v) (mask := mask)
    (add := false) (h := h) (hs := hs) (k := k) (f := g) (d := ![16])
  have hset : ((s4).access (.whole S21040)).set = Finset.univ := Memref.set_access_whole cc0_scratch4
  have hrd : ∀ w : Vec F S21040 .f32, ((s4).access (.whole S21040)).read (Elt F) w = w := fun w => Memref.read_access_whole (Elt F) cc0_scratch4 w
  have hwr : ∀ u w : Vec F S21040 .f32, ((s4).access (.whole S21040)).write (Elt F) u w Finset.univ = w := fun u w => Memref.write_access_whole_univ (Elt F) cc0_scratch4 u w
  rw [hset, hrd, hwr] at H
  exact H

/-- One trip: sixteen boxes loaded, computed and stored field by field. -/
theorem trip (b : BitVec 32) (f₀ f₁ f₂ f₃ : Vec F S4208 .f32) (g : Vec F S21040 .f32) (t : Fin k0_t1_loop.trips)
    (hg : DoneTo b f₀ f₁ f₂ f₃ (80 * t.val) g) :
    scrPts d L f₀ f₁ f₂ f₃ g
      ⊢ wp frame (wpE (defs₀ (F := F)) 𝒱₀ (tile d L) none) Set.univ
          (k0_t1_body L aIn (Memref.isWhole_whole _) aOut (Memref.isWhole_whole _)
            s0 (Memref.isWhole_whole _) s1 (Memref.isWhole_whole _) s2 (Memref.isWhole_whole _) s3 (Memref.isWhole_whole _)
            s4 (Memref.isWhole_whole _) cc0_scratch5 cc0_scoped0 b t ⟨⟩)
          fun _ => iprop(∃ g', ⌜DoneTo b f₀ f₁ f₂ f₃ (80 * (t.val + 1)) g'⌝ ∗ scrPts d L f₀ f₁ f₂ f₃ g') := by
  unfold k0_t1_body
  simp only [k0_part1_eq_skeleton]; unfold k0_part1_skel
  simp only [Prog.lift, Prog.bind_op, Prog.bind_ret, Prog.pure_eq_ret]
  unfold scrPts
  iintro ⟨H0, H1, H2, H3, H4⟩
  sl_exec
  rw [read_s0, read_s1, read_s2, read_s3]
  rw [wp_assume_of _ _ _ _ (chk1 t)]
  iapply (wp_store_s4 d L) $$ H4; iintro H4
  rw [wp_assume_of _ _ _ _ (chk2 t)]
  iapply (wp_store_s4 d L) $$ H4; iintro H4
  rw [wp_assume_of _ _ _ _ (chk3 t)]
  iapply (wp_store_s4 d L) $$ H4; iintro H4
  rw [wp_assume_of _ _ _ _ (chk4 t)]
  iapply (wp_store_s4 d L) $$ H4; iintro H4
  rw [wp_assume_of _ _ _ _ (chk5 t)]
  iapply (wp_store_s4 d L) $$ H4; iintro H4
  sl_step
  iexists (tripStores t b (loaded t f₀) (loaded t f₁) (loaded t f₂) (loaded t f₃) g (chk1 t) (chk2 t) (chk3 t) (chk4 t) (chk5 t))
  isplitr
  · ipureintro; exact tripStores_done t b f₀ f₁ f₂ f₃ g _ _ _ _ _ hg
  isplitl [H0]; · iexact H0
  isplitl [H1]; · iexact H1
  isplitl [H2]; · iexact H2
  isplitl [H3]; · iexact H3
  unfold tripStores
  iexact H4

end Cert.Proof.KernI

end
-- ==== Proof.KernelIdeal.Tile.lean ====
/-
  A tile's task, run once at symbolic coordinates.
-/
module

public import proofs.«01_k».proof.Defs
public import proofs.«01_k».proof.Proof.KernelIdeal.Trip

@[expose] public section

noncomputable section

namespace Cert.Proof.KernI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ (UU F) ℕ

variable (d : Dev nD) (L : grid0.Coords)

/-! ## The tile's cells and buffers among what the launch hands it -/

/-- The semaphore that the four copies in complete on. -/
abbrev inCell : GSem nD τ sig := (tile d L, .dma cc0_scratch5.sem)
/-- The semaphore that the copy out completes on. -/
abbrev outCell : GSem nD τ sig := (tile d L, .dma cc0_scoped0.sem)

omit [FloatOps F] [Named F] in
/-- A tile's own semaphores at zero: the two of its copies, and the rest. -/
theorem ownSems0_V :
    (ownSems0 (tile d L) : sProp 𝕄)
      = iprop(semVal (inCell d L) 0 ∗ semVal (outCell d L) 0
          ∗ bigSep (((ownCells (tile d L)).erase (inCell d L)).erase (outCell d L)) fun g => semVal g 0) := by
  unfold SparseCore.Cfg.ownSems0
  rw [SparseCore.bigSep_erase' ((mem_ownCells (g := inCell d L)).mpr ⟨rfl, by
      show (SemLoc.dma cc0_scratch5.sem : SemLoc sig).isScoped .scVector = true; decide⟩),
    SparseCore.bigSep_erase' (Finset.mem_erase.mpr ⟨by simp [inCell, outCell]; decide, (mem_ownCells (g := outCell d L)).mpr ⟨rfl, by
      show (SemLoc.dma cc0_scoped0.sem : SemLoc sig).isScoped .scVector = true; decide⟩⟩)]

/-- A scratch of the tile, as one of the device's buffers. -/
abbrev scr (b : Ref sig .scVector) : DevRef τ sig := (Proc.scVector (cV L) (jV L)).devRef b

omit [FloatOps F] [Named F] in
/-- A scratch of the tile is one of the tile's own buffers. -/
theorem scr_mem (b : Ref sig .scVector) (hb : (scr L b).owner = .proc (Proc.scVector (cV L) (jV L))) :
    scr L b ∈ ownRefs (τ := τ) (.scVector (cV L) (jV L)) :=
  SparseCore.Cfg.mem_ownRefs_of_owner (p := Proc.scVector (cV L) (jV L)) (b := scr L b) hb
omit [FloatOps F] [Named F] in
/-- Different scratches are different buffers. -/
theorem scr_ne {b b' : Ref sig .scVector} (h : b ≠ b') : scr L b ≠ scr L b' := fun e => h (Proc.devRef_injective _ e)

/-- One of the tile's buffers, at some contents. -/
abbrev somePts (b : DevRef τ sig) : sProp 𝕄 := iprop(∃ f, ((d, b) : Loc nD τ sig) ↦{fullShare} f)

omit [FloatOps F] [Named F] in
/-- The five scratches are among the tile's own buffers: they are them, at some contents, and the rest. -/
theorem ownBufs_V :
    (ownBufs (tile d L) : sProp 𝕄)
      = iprop((∃ f, (tile d L).loc cc0_scratch0 ↦{fullShare} f) ∗ (∃ f, (tile d L).loc cc0_scratch1 ↦{fullShare} f)
          ∗ (∃ f, (tile d L).loc cc0_scratch2 ↦{fullShare} f) ∗ (∃ f, (tile d L).loc cc0_scratch3 ↦{fullShare} f)
          ∗ (∃ f, (tile d L).loc cc0_scratch4 ↦{fullShare} f)
          ∗ bigSep ((((((ownRefs (τ := τ) (.scVector (cV L) (jV L))).erase (scr L cc0_scratch0)).erase (scr L cc0_scratch1)).erase
              (scr L cc0_scratch2)).erase (scr L cc0_scratch3)).erase (scr L cc0_scratch4)) (somePts d)) := by
  unfold SparseCore.Cfg.ownBufs
  refine (SparseCore.bigSep_erase' (scr_mem L cc0_scratch0 rfl)).trans ?_
  rw [SparseCore.bigSep_erase' (Finset.mem_erase.mpr ⟨scr_ne L (b := cc0_scratch1) (b' := cc0_scratch0) (by decide), scr_mem L cc0_scratch1 rfl⟩),
    SparseCore.bigSep_erase' (Finset.mem_erase.mpr ⟨scr_ne L (b := cc0_scratch2) (b' := cc0_scratch1) (by decide),
      Finset.mem_erase.mpr ⟨scr_ne L (b := cc0_scratch2) (b' := cc0_scratch0) (by decide), scr_mem L cc0_scratch2 rfl⟩⟩),
    SparseCore.bigSep_erase' (Finset.mem_erase.mpr ⟨scr_ne L (b := cc0_scratch3) (b' := cc0_scratch2) (by decide),
      Finset.mem_erase.mpr ⟨scr_ne L (b := cc0_scratch3) (b' := cc0_scratch1) (by decide),
      Finset.mem_erase.mpr ⟨scr_ne L (b := cc0_scratch3) (b' := cc0_scratch0) (by decide), scr_mem L cc0_scratch3 rfl⟩⟩⟩),
    SparseCore.bigSep_erase' (Finset.mem_erase.mpr ⟨scr_ne L (b := cc0_scratch4) (b' := cc0_scratch3) (by decide),
      Finset.mem_erase.mpr ⟨scr_ne L (b := cc0_scratch4) (b' := cc0_scratch2) (by decide),
      Finset.mem_erase.mpr ⟨scr_ne L (b := cc0_scratch4) (b' := cc0_scratch1) (by decide),
      Finset.mem_erase.mpr ⟨scr_ne L (b := cc0_scratch4) (b' := cc0_scratch0) (by decide), scr_mem L cc0_scratch4 rfl⟩⟩⟩⟩)]

/-! ## The buffers as the tile's memrefs address them -/

omit [FloatOps F] [Named F] in
/-- The input as the copies' views see it. -/
theorem pts_in (q : PosShare TreeShare) (f : Buf (Elt F) (inLoc d)) :
    ((aIn).view.loc (tile d L) ↦{q} f : sProp 𝕄) = inLoc d ↦{q} f := rfl
omit [FloatOps F] [Named F] in
/-- A read share of the whole input is the share of one slice, as a copy reads it, and of the rest. -/
theorem in_carve (m : Memref sig .scVector .hbm S4208 .f32) (q : PosShare TreeShare) (f : Buf (Elt F) (m.view.loc (tile d L))) :
    (m.view.loc (tile d L) ↦{q} f : sProp 𝕄)
      ⊣⊢ iprop((m.view.loc (tile d L) ↦[m.view.set]{q} f) ∗ m.view.loc (tile d L) ↦[Finset.univ \ m.view.set]{q} f) :=
  pointsTo_split_subset (Finset.subset_univ _)

omit [FloatOps F] [Named F] in
/-- A share of the input in four. -/
theorem in_quarters (q : PosShare TreeShare) (f : Buf (Elt F) (inLoc d)) :
    (inLoc d ↦{q} f : sProp 𝕄)
      ⊣⊢ iprop(((inLoc d ↦{q.left.left} f) ∗ inLoc d ↦{q.left.right} f) ∗ (inLoc d ↦{q.right.left} f) ∗ inLoc d ↦{q.right.right} f) := by
  have sh : ∀ q' : PosShare TreeShare, (inLoc d ↦{q'} f : sProp 𝕄) ⊣⊢ iprop((inLoc d ↦{q'.left} f) ∗ inLoc d ↦{q'.right} f) := fun q' =>
    pointsTo_share (PosShare.mem_left_op_right q')
  have h := sh q
  have hl := sh q.left
  have hr := sh q.right
  exact ⟨h.1.trans (BI.sep_mono hl.1 hr.1), (BI.sep_mono hl.2 hr.2).trans h.2⟩

omit [FloatOps F] [Named F] in
/-- Row scratch 0 as its view sees it. -/
theorem pts_s0 (f : Buf (Elt F) ((tile d L).loc cc0_scratch0)) :
    ((s0).view.loc (tile d L) ↦{fullShare} f : sProp 𝕄) = (tile d L).loc cc0_scratch0 ↦{fullShare} f := rfl
omit [FloatOps F] [Named F] in
/-- Row scratch 1 as its view sees it. -/
theorem pts_s1 (f : Buf (Elt F) ((tile d L).loc cc0_scratch1)) :
    ((s1).view.loc (tile d L) ↦{fullShare} f : sProp 𝕄) = (tile d L).loc cc0_scratch1 ↦{fullShare} f := rfl
omit [FloatOps F] [Named F] in
/-- Row scratch 2 as its view sees it. -/
theorem pts_s2 (f : Buf (Elt F) ((tile d L).loc cc0_scratch2)) :
    ((s2).view.loc (tile d L) ↦{fullShare} f : sProp 𝕄) = (tile d L).loc cc0_scratch2 ↦{fullShare} f := rfl
omit [FloatOps F] [Named F] in
/-- Row scratch 3 as its view sees it. -/
theorem pts_s3 (f : Buf (Elt F) ((tile d L).loc cc0_scratch3)) :
    ((s3).view.loc (tile d L) ↦{fullShare} f : sProp 𝕄) = (tile d L).loc cc0_scratch3 ↦{fullShare} f := rfl
omit [FloatOps F] [Named F] in
/-- The output scratch as its view sees it. -/
theorem pts_s4 (f : Buf (Elt F) ((tile d L).loc cc0_scratch4)) :
    ((s4).view.loc (tile d L) ↦{fullShare} f : sProp 𝕄) = (tile d L).loc cc0_scratch4 ↦{fullShare} f := rfl

variable (fi : (d : Dev nD) → Buf (Elt F) (inLoc d)) (fo : (d : Dev nD) → Buf (Elt F) (outLoc d))

/-! ## The rows a tile copies in -/

/-- What the copy of row 0 reads. -/
abbrev row0 : Vec F S4208 .f32 := (in0 L).view.read (Elt F) (fi d)
/-- What the copies of rows 1 to 3 read. -/
abbrev row1 : Vec F S4208 .f32 := (in1 L).view.read (Elt F) (fi d)
abbrev row2 : Vec F S4208 .f32 := (in2 L).view.read (Elt F) (fi d)
abbrev row3 : Vec F S4208 .f32 := (in3 L).view.read (Elt F) (fi d)

omit [FloatOps F] [Named F] in
/-- An index of the flattened input is the one at position `n` when its coordinate is `n` there. -/
theorem src_eq (u : S11289600.Idx) (n : ℕ) (h : (u 0).val = n % 11289600) : u = srcIx n := by
  funext a; obtain rfl : a = 0 := Subsingleton.elim _ _
  exact Fin.ext h

omit [FloatOps F] [Named F] in
/-- The copied row 0, at an element, is the input at the batch's row 0. -/
theorem row0_apply (x : S4208.Idx) : row0 d L fi x = fi d (srcIx (srcPos (L 1).val 0 ((L 0).val * 4192 + (x 0).val))) := by
  have h0 : (L 0).val < 2 := (L 0).isLt
  have h1 : (L 1).val < 16 := (L 1).isLt
  have hx : (x 0).val < 4208 := (x 0).isLt
  refine congrArg (fi d) (src_eq _ _ ?_)
  show (k0_off1 L) 0 + 1 * (x 0).val = srcPos _ _ _ % 11289600
  rw [off1_eq]
  show (L 1).val * 705600 + (L 0).val * 4192 + 1 * (x 0).val = _
  unfold srcPos
  rw [Nat.mod_eq_of_lt (by omega)]; omega

omit [FloatOps F] [Named F] in
/-- Where an element of rows 1 to 3's slices lies in the input. -/
theorem row_pos (r : Fin 3) (x : S4208.Idx) :
    (k0_off2 L (BitVec.ofNat 32 (8400 + 8400 * r.val))) 0 + 1 * (x 0).val
      = srcPos (L 1).val (r.val + 1) ((L 0).val * 4192 + (x 0).val) % 11289600 := by
  have h0 : (L 0).val < 2 := (L 0).isLt
  have h1 : (L 1).val < 16 := (L 1).isLt
  have hx : (x 0).val < 4208 := (x 0).isLt
  have hr := r.isLt
  rw [off2_eq]
  show (L 1).val * 705600 + (L 0).val * 4192 + (8400 + 8400 * r.val) + 1 * (x 0).val = _
  unfold srcPos
  rw [Nat.mod_eq_of_lt (by omega)]; omega

omit [FloatOps F] [Named F] in
/-- The copied row 1, at an element, is the input at the batch's row 1. -/
theorem row1_apply (x : S4208.Idx) : row1 d L fi x = fi d (srcIx (srcPos (L 1).val 1 ((L 0).val * 4192 + (x 0).val))) := by
  exact congrArg (fi d) (src_eq _ _ (row_pos L 0 x))
omit [FloatOps F] [Named F] in
/-- The copied row 2, at an element, is the input at the batch's row 2. -/
theorem row2_apply (x : S4208.Idx) : row2 d L fi x = fi d (srcIx (srcPos (L 1).val 2 ((L 0).val * 4192 + (x 0).val))) := by
  exact congrArg (fi d) (src_eq _ _ (row_pos L 1 x))
omit [FloatOps F] [Named F] in
/-- The copied row 3, at an element, is the input at the batch's row 3. -/
theorem row3_apply (x : S4208.Idx) : row3 d L fi x = fi d (srcIx (srcPos (L 1).val 3 ((L 0).val * 4192 + (x 0).val))) := by
  exact congrArg (fi d) (src_eq _ _ (row_pos L 2 x))

/-- Where in the result an element of the window lies. -/
theorem win_emb (x : S21040.Idx) : ((win L).view.emb x 0).val = (L 1).val * 42000 + (L 0).val * 20960 + (x 0).val := by
  show (k0_off4 L) 0 + 1 * (x 0).val = _
  rw [off4_eq]
  show (L 1).val * 42000 + (L 0).val * 20960 + 1 * (x 0).val = _
  omega

/-- An output scratch all of whose elements are their boxes' is what the agreed targets name in the window. -/
theorem done_target (g : Vec F S21040 .f32)
    (hg : DoneTo (batchWord L) (row0 d L fi) (row1 d L fi) (row2 d L fi) (row3 d L fi) 21040 g) (x : S21040.Idx) :
    g x = boxes (F := F) (fi d) ((win L).view.emb x) := by
  rw [hg x (x 0).isLt, batchWord_eq]
  exact winBoxes_eq (fi d) L _ _ _ _ (row0_apply d L fi) (row1_apply d L fi) (row2_apply d L fi) (row3_apply d L fi) x _ (win_emb L x)

/-! ## The copy out -/

/-- The copy of the output scratch to the window and its wait: the window comes back with every element marked written,
    given that the scratch holds what the targets name. -/
theorem copy_out {α : Type} {Q : α → sProp 𝕄} {ιw : ℕ} {O : CellTallies nD τ sig (HIx 1)} {W : Waits sig (HIx 1)}
    (g : Vec F S21040 .f32) (hg : ∀ x, g x = boxes (F := F) (fi d) ((win L).view.emb x))
    {hsrc : (s4).view.WordExact} {hdst : (win L).view.WordExact}
    {hsem : DmaTarget.Typed (nD := nD) (p := .scVector (cV L) (jV L)) .vmem (.dma cc0_scoped0.sem) (.here (win L))}
    {hsrc' : (s4).view.WordExact} {hdst' : (win L).view.WordExact}
    {k : PUnit → Prog (TpuEff nD τ sig (Elt F) Λ₀ (.scVector (cV L) (jV L))) α} :
    iprop(wmInv (emb (F := F)) ιw ∗ ((s4).view.loc (tile d L) ↦{fullShare} g)
        ∗ outWm fi fo d (winSet L) (halfShare (L 0).val) ∅ ∗ semVal (outCell d L) 0 ∗ owes (tile d L) O W
        ∗ MayWait (tile d L) (.dma cc0_scoped0.sem) none O)
      ⊢ iprop((iprop(((s4).view.loc (tile d L) ↦{fullShare} g)
            ∗ outWm fi fo d (winSet L) (halfShare (L 0).val) (winSet L) ∗ semVal (outCell d L) 0
            ∗ owes (tile d L) O (insert (SemLoc.dma cc0_scoped0.sem, none) W))
          -∗ wp frame (wpE (defs₀ (F := F)) 𝒱₀ (tile d L) none) Set.univ (k ⟨⟩) Q)
        -∗ wp frame (wpE (defs₀ (F := F)) 𝒱₀ (tile d L) none) Set.univ
            (Prog.op (.enqueueDma s4 (.here (win L)) (.dma cc0_scoped0.sem) hsrc hdst hsem) fun _ =>
              Prog.op (.waitDma2 cc0_scoped0.sem s4 (win L) hsrc' hdst') k : Prog (TpuEff nD τ sig (Elt F) Λ₀ (.scVector (cV L) (jV L))) α) Q) := by
  have hset : (s4).view.set = Finset.univ := by simp only [Memref.view_whole, View.set_whole]
  have hN0 : 0 < (win L).view.dmaCredit := View.amount_pos (win L).view (.dma cc0_scoped0.sem) (show 0 < S21040.numel by decide)
  have hadm : (win L).view.Admitted (Elt F) (target fi d) ((s4).view.read (Elt F) g) Finset.univ :=
    View.admitted_some_iff.mpr fun x _ => hg x
  iintro ⟨#Hwm, Hs, Ho, Hv, HO, Hmw⟩ Hk
  ihave Hs' := (Entails.of_eq (show ((s4).view.loc (tile d L) ↦{fullShare} g : sProp 𝕄) = (s4).view.loc (tile d L) ↦[(s4).view.set]{fullShare} g by rw [hset])) $$ Hs
  imod (Transfers.flight_alloc EC hN0 (g := outCell d L)
    iprop(willBeTo (emb (F := F)) ((win L).view.loc (tile d L)) (win L).view.set (halfShare (L 0).val) (fo d) (target fi d) (∅ ∪ (win L).view.set)
      ∗ ((s4).view.loc (tile d L) ↦[(s4).view.set]{fullShare} g))) $$ Hv with ⟨%γ, %δ, %ι, #Hinv, Hc, Hδ⟩
  ihave Hcu := (Transfers.flight_creditUpdate EC (ι := ι)) $$ [Hc]
  · isplitr; · iexact Hinv
    iexact Hc
  iapply (wp_enqueueDma_willBeTo (emb := emb (F := F)) (ιwm := ιw) 𝒱₀ (tile d L) none Set.univ (none : HIx 1) ((win L).view.dmaCredit) rfl hadm) $$ [Hs' Ho] Hcu
  · isplitl [Hs']; · iexact Hs'
    isplitr; · iexact Hwm
    iexact Ho
  iintro Hcred
  iapply (Transfers.wp_waitLocalO EC 𝒱₀ (tile d L) none (none : HIx 1) rfl) $$ [Hcred Hδ HO Hmw]
  · isplitl [Hcred Hδ]
    · iapply (Transfers.flight_intro EC)
      isplitr; · iexact Hinv
      isplitl [Hδ]; · iexact Hδ
      iexact Hcred
    isplitl [HO]; · iexact HO
    iexact Hmw
  iintro ⟨⟨Ho, Hs⟩, Hv, HO⟩
  iapply Hk
  ihave Hs' := (Entails.of_eq (show ((s4).view.loc (tile d L) ↦[(s4).view.set]{fullShare} g : sProp 𝕄) = (s4).view.loc (tile d L) ↦{fullShare} g by rw [hset])) $$ Hs
  isplitl [Hs']; · iexact Hs'
  isplitl [Ho]; · iapply (Entails.of_eq (congrArg (willBeTo (emb (F := F)) ((win L).view.loc (tile d L)) (win L).view.set (halfShare (L 0).val) (fo d) (target fi d)) (Finset.empty_union (win L).view.set))); iexact Ho
  isplitl [Hv]; · iexact Hv
  iexact HO

/-- The loop's invariant: the first `80 n` elements of the output scratch are their boxes', the rows as copied in. -/
def inv (n : ℕ) (_ : PUnit) : sProp 𝕄 :=
  iprop(∃ g, ⌜DoneTo (batchWord L) (row0 d L fi) (row1 d L fi) (row2 d L fi) (row3 d L fi) (80 * n) g⌝
    ∗ scrPts d L (row0 d L fi) (row1 d L fi) (row2 d L fi) (row3 d L fi) g)

/-- The loop has 263 trips. -/
theorem trips_eq : k0_t1_loop.trips = 263 := by decide +kernel

set_option maxRecDepth 20000 in
/-- The tile's task: four copies in on one cell, the loop, the copy out in write mode. -/
theorem tile_body (hF : (K (F := F)).Facts) (q : PosShare TreeShare) (O : CellTallies nD τ sig (HIx 1)) (W : Waits sig (HIx 1)) (hO : ∀ g, O g none = 0)
    (_plan : Transfers.BatchOf (tile d L) (SemLoc.dma (sig := sig) cc0_scratch5.sem) 4) :
    iprop(levAts (K (F := F)).L (K (F := F)).lev ∗ wmOn (F := F) ∗ goL fi fo d L q
        ∗ scopedBufs (tile d L) ∗ scopedSems0 (tile d L) ∗ owes (tile d L) O W)
      ⊢ wp frame (wpE (defs₀ (F := F)) 𝒱₀ (tile d L) none) Set.univ
          (cc0__roi_body L aIn (Memref.isWhole_whole _) aOut (Memref.isWhole_whole _)
            s0 (Memref.isWhole_whole _) s1 (Memref.isWhole_whole _) s2 (Memref.isWhole_whole _) s3 (Memref.isWhole_whole _)
            s4 (Memref.isWhole_whole _) cc0_scratch5 cc0_scoped0)
          fun _ => iprop(tdL fi fo d L q ∗ scopedBufs (tile d L) ∗ scopedSems0 (tile d L)
            ∗ ∃ W', ⌜∀ p ∈ W', p ∈ W ∨ p.2 = none⌝ ∗ owes (tile d L) O W') := by
  simp only [cc0__roi_body_eq_skeleton]; unfold cc0__roi_body_skel
  simp only [k0_part2_eq_skeleton]; unfold k0_part2_skel
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  unfold goL tdL wmOn
  iintro ⟨#Hlv, ⟨%ιw, #Hwm⟩, ⟨Hin, Hout⟩, ⟨⟨%g0, H0⟩, ⟨%g1, H1⟩, ⟨%g2, H2⟩, ⟨%g3, H3⟩, ⟨%g4, H4⟩, Hbufs⟩, ⟨HsI, HsO, Hsems⟩, HO⟩
  ihave Hmw := ((K (F := F)).mayWaits_none (thr := tile d L) hO) $$ Hlv
  ihave Hq := (in_quarters (F := F) d q _).1 $$ Hin
  icases Hq with ⟨⟨Hq0, Hq1⟩, Hq2, Hq3⟩
  ihave Hc0 := (in_carve (F := F) d L (in0 L) q.left.left (fi d)).1 $$ Hq0
  ihave Hc1 := (in_carve (F := F) d L (in1 L) q.left.right (fi d)).1 $$ Hq1
  ihave Hc2 := (in_carve (F := F) d L (in2 L) q.right.left (fi d)).1 $$ Hq2
  ihave Hc3 := (in_carve (F := F) d L (in3 L) q.right.right (fi d)).1 $$ Hq3
  icases Hc0 with ⟨Hi0, Hr0⟩
  icases Hc1 with ⟨Hi1, Hr1⟩
  icases Hc2 with ⟨Hi2, Hr2⟩
  icases Hc3 with ⟨Hi3, Hr3⟩
  ihave H0' := (Entails.of_eq (pts_s0 (F := F) d L _).symm) $$ H0
  ihave H1' := (Entails.of_eq (pts_s1 (F := F) d L _).symm) $$ H1
  ihave H2' := (Entails.of_eq (pts_s2 (F := F) d L _).symm) $$ H2
  ihave H3' := (Entails.of_eq (pts_s3 (F := F) d L _).symm) $$ H3
  ihave H4' := (Entails.of_eq (pts_s4 (F := F) d L _).symm) $$ H4
  sl_exec
  have e0 : ∀ g w : Vec F S4208 .f32, View.write (Elt F) (s0).view g w Finset.univ = w := fun g w => View.write_whole_univ (Val := Elt F) cc0_scratch0 g w
  have e1 : ∀ g w : Vec F S4208 .f32, View.write (Elt F) (s1).view g w Finset.univ = w := fun g w => View.write_whole_univ (Val := Elt F) cc0_scratch1 g w
  have e2 : ∀ g w : Vec F S4208 .f32, View.write (Elt F) (s2).view g w Finset.univ = w := fun g w => View.write_whole_univ (Val := Elt F) cc0_scratch2 g w
  have e3 : ∀ g w : Vec F S4208 .f32, View.write (Elt F) (s3).view g w Finset.univ = w := fun g w => View.write_whole_univ (Val := Elt F) cc0_scratch3 g w
  rw [e0, e1, e2, e3]
  sl_for (inv d L fi) $$ [H0' H1' H2' H3' H4']
  case region =>
    intro k _
    unfold inv
    iintro ⟨%g, %hg, H⟩
    iapply (trip d L (batchWord L) _ _ _ _ g k hg) $$ H
  · unfold inv scrPts
    iexists g4
    isplitr
    · ipureintro; intro j hj; exact absurd hj (Nat.not_lt_zero _)
    isplitl [H0']; · iexact H0'
    isplitl [H1']; · iexact H1'
    isplitl [H2']; · iexact H2'
    isplitl [H3']; · iexact H3'
    iexact H4'
  iintro %_ HI
  unfold inv scrPts
  icases HI with ⟨%g, %hg, H0, H1, H2, H3, H4⟩
  rw [show Scf.trips k0_t1_loop.lb k0_t1_loop.ub k0_t1_loop.st = 263 from trips_eq] at hg
  unfold tile_body.sl.prog.cont_1
  ihave Hmwo := (Transfers.MayWaits.elim (SemLoc.dma cc0_scoped0.sem)) $$ Hmw
  iapply (copy_out d L fi fo g (done_target d L fi g hg)) $$ [H4 Hout HsO HO Hmwo]
  · isplitr; · iexact Hwm
    isplitl [H4]; · iexact H4
    isplitl [Hout]; · iexact Hout
    isplitl [HsO]; · iexact HsO
    isplitl [HO]; · iexact HO
    iexact Hmwo
  iintro ⟨H4, Hout, HsO, HO⟩
  sl_step
  isplitl [Hr0 Hr1 Hr2 Hr3 Hout]
  · isplitl [Hr0 Hr1 Hr2 Hr3]
    · iapply (in_quarters (F := F) d q _).2
      isplitl [Hr0 Hr1]
      · isplitl [Hr0]; · iexact Hr0
        iexact Hr1
      isplitl [Hr2]; · iexact Hr2
      iexact Hr3
    iexact Hout
  isplitl [H0 H1 H2 H3 H4 Hbufs]
  · isplitl [H0]; · iexists _; iexact H0
    isplitl [H1]; · iexists _; iexact H1
    isplitl [H2]; · iexists _; iexact H2
    isplitl [H3]; · iexists _; iexact H3
    isplitl [H4]; · iexists _; iexact H4
    iexact Hbufs
  isplitl [HsI HsO Hsems]
  · isplitl [HsI]; · iexact HsI
    isplitl [HsO]; · iexact HsO
    iexact Hsems
  iexists _
  isplitr; rotate_left
  · iexact HO
  · ipureintro
    intro p hp
    simp only [Finset.mem_insert] at hp
    rcases hp with rfl | rfl | rfl | rfl | rfl | hp
    · exact .inr rfl
    · exact .inr rfl
    · exact .inr rfl
    · exact .inr rfl
    · exact .inr rfl
    · exact .inl hp

end Cert.Proof.KernI

end
-- ==== Proof.KernelIdeal.Share.lean ====
/-
  The write-mode result and the read-only input as the call splits them among the SparseCores and tiles, and as it joins
  them again when the tiles are done.
-/
module

public import proofs.«01_k».proof.Defs
public import proofs.«01_k».proof.Proof.KernelIdeal.Tile

@[expose] public section

noncomputable section

namespace Cert.Proof.KernI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ (UU F) ℕ

variable (fi : (d : Dev nD) → Buf (Elt F) (inLoc d)) (fo : (d : Dev nD) → Buf (Elt F) (outLoc d)) (d : Dev nD)

/-! ## The windows as sets of elements -/

/-- An element of the result is its number. -/
theorem out_ext (u v : S672000.Idx) (h : (u 0).val = (v 0).val) : u = v := by
  funext a; obtain rfl : a = 0 := Subsingleton.elim _ _
  exact Fin.ext h

/-- An element of the result lies in a tile's window when its number is in the window's range. -/
theorem mem_winSet (L : grid0.Coords) (j : S672000.Idx) :
    j ∈ winSet L ↔ (L 1).val * 42000 + (L 0).val * 20960 ≤ (j 0).val ∧ (j 0).val < (L 1).val * 42000 + (L 0).val * 20960 + 21040 := by
  constructor
  · intro h
    obtain ⟨x, -, rfl⟩ := Finset.mem_map.mp h
    have hx : (x 0).val < 21040 := (x 0).isLt
    have e := win_emb L x
    omega
  · rintro ⟨h1, h2⟩
    let x : S21040.Idx := fun a => ⟨(j 0).val - ((L 1).val * 42000 + (L 0).val * 20960), by
      obtain rfl : a = 0 := Subsingleton.elim _ _
      show _ < 21040
      omega⟩
    have e : (win L).view.emb x = j := by
      refine out_ext _ _ ((win_emb L x).trans ?_)
      show (L 1).val * 42000 + (L 0).val * 20960 + ((j 0).val - ((L 1).val * 42000 + (L 0).val * 20960)) = (j 0).val
      omega
    exact Finset.mem_map.mpr ⟨x, Finset.mem_univ _, e⟩

/-- The window of tile `i` of SparseCore `c`. -/
abbrev winOf (c : Fin 2) (i : Fin 16) : Finset S672000.Idx := winSet (coordsV c i)
/-- The elements the tiles of SparseCore `c` write. -/
def winAll (c : Fin 2) : Finset S672000.Idx := Finset.univ.biUnion fun i : Fin 16 => winOf c i

/-- The elements of a tile's window are the 21040 from its first on. -/
theorem mem_winOf (c : Fin 2) (i : Fin 16) (j : S672000.Idx) :
    j ∈ winOf c i ↔ i.val * 42000 + c.val * 20960 ≤ (j 0).val ∧ (j 0).val < i.val * 42000 + c.val * 20960 + 21040 :=
  mem_winSet (coordsV c i) j

/-- The windows of one SparseCore's tiles are apart. -/
theorem winOf_disjoint (c : Fin 2) : ∀ i ∈ (Finset.univ : Finset (Fin 16)), ∀ i' ∈ (Finset.univ : Finset (Fin 16)), i ≠ i' →
    Disjoint (winOf c i) (winOf c i') := by
  intro i _ i' _ hne
  rw [Finset.disjoint_left]
  intro j hj hj'
  rw [mem_winOf] at hj hj'
  have hv : i.val ≠ i'.val := fun e => hne (Fin.ext e)
  omega

/-- The two SparseCores' windows cover the result. -/
theorem winAll_cover : winAll 0 ∪ winAll 1 = Finset.univ := by
  rw [Finset.eq_univ_iff_forall]
  intro j
  have hj : (j 0).val < 672000 := (j 0).isLt
  rw [Finset.mem_union]
  unfold winAll
  by_cases h : (j 0).val % 42000 < 21040
  · left
    refine Finset.mem_biUnion.mpr ⟨⟨(j 0).val / 42000, by omega⟩, Finset.mem_univ _, (mem_winOf _ _ _).mpr ?_⟩
    have e : ((0 : Fin 2)).val = 0 := rfl
    rw [e]
    dsimp only
    omega
  · right
    refine Finset.mem_biUnion.mpr ⟨⟨(j 0).val / 42000, by omega⟩, Finset.mem_univ _, (mem_winOf _ _ _).mpr ?_⟩
    have e : ((1 : Fin 2)).val = 1 := rfl
    rw [e]
    dsimp only
    omega

/-! ## The result in write mode -/

/-- The elements of a set of the result, apart from the others. -/
theorem wm_carve {I S : Finset S672000.Idx} (h : I ⊆ S) (q : PosShare TreeShare) (W : Finset S672000.Idx) :
    outWm fi fo d S q W ⊣⊢ iprop(outWm fi fo d I q W ∗ outWm fi fo d (S \ I) q W) :=
  BI.Region.held_split_subset h

/-- Halves of every element's share hold the marks of either. -/
theorem wm_halves (W₁ W₂ : Finset S672000.Idx) :
    outWm fi fo d Finset.univ fullShare (W₁ ∪ W₂)
      ⊣⊢ iprop(outWm fi fo d Finset.univ fullShare.left W₁ ∗ outWm fi fo d Finset.univ fullShare.right W₂) := by
  refine BI.Region.held_share (PosShare.mem_left_op_right fullShare) fun i _ => ?_
  have e : decide (i ∈ W₁ ∪ W₂) = (decide (i ∈ W₁) || decide (i ∈ W₂)) := by
    rw [← Bool.decide_or]; exact decide_eq_decide.mpr Finset.mem_union
  rw [e]
  exact Region.WB.mem_mk_op_mk _ _ _ _

/-- A union of sets that are apart, set by set. -/
theorem wm_windows (q : PosShare TreeShare) (W : Finset S672000.Idx) (U : Fin 16 → Finset S672000.Idx) (s : Finset (Fin 16))
    (hU : ∀ i ∈ s, ∀ i' ∈ s, i ≠ i' → Disjoint (U i) (U i')) :
    outWm fi fo d (s.biUnion U) q W = bigSep s fun i => outWm fi fo d (U i) q W := by
  induction s using Finset.induction_on with
  | empty => rw [Finset.biUnion_empty, bigSep_empty]; exact BI.Region.held_empty (υ := wmEmb (HIx 1) (emb (F := F)))
  | insert a s ha ih =>
    rw [Finset.biUnion_insert, SparseCore.bigSep_insert' ha,
      ← ih fun i hi i' hi' h => hU i (Finset.mem_insert_of_mem hi) i' (Finset.mem_insert_of_mem hi') h]
    have hd : Disjoint (U a) (s.biUnion U) := (Finset.disjoint_biUnion_right _ _ _).mpr fun i hi =>
      hU a (Finset.mem_insert_self _ _) i (Finset.mem_insert_of_mem hi) fun e => ha (e ▸ hi)
    have h : outWm fi fo d (U a ∪ s.biUnion U) q W ⊣⊢ iprop(outWm fi fo d (U a) q W ∗ outWm fi fo d (s.biUnion U) q W) :=
      BI.Region.held_union hd
    exact BI.Entails.antisymm h.1 h.2

/-- What is known outside the set does not matter. -/
theorem wm_marks {I : Finset S672000.Idx} {q : PosShare TreeShare} {W W' : Finset S672000.Idx} (h : ∀ i ∈ I, i ∈ W ↔ i ∈ W') :
    outWm fi fo d I q W = outWm fi fo d I q W' :=
  BI.Region.willBe_congr (fun _ _ => rfl) (fun _ _ => rfl) h

/-- One SparseCore's share of the result, nothing written, is its tiles' windows and the rest. -/
theorem wm_deal (c : Fin 2) (q : PosShare TreeShare) :
    outWm fi fo d Finset.univ q ∅
      ⊢ iprop((bigSep Finset.univ fun i : Fin 16 => outWm fi fo d (winOf c i) q ∅) ∗ outWm fi fo d (Finset.univ \ winAll c) q ∅) := by
  refine (wm_carve fi fo d (Finset.subset_univ (winAll c)) q ∅).1.trans ?_
  rw [← wm_windows fi fo d q ∅ (winOf c) Finset.univ (winOf_disjoint c)]
  exact Entails.of_eq rfl

/-- The windows back, each written, and the rest: the share, every window written. -/
theorem wm_back (c : Fin 2) (q : PosShare TreeShare) :
    iprop((bigSep Finset.univ fun i : Fin 16 => outWm fi fo d (winOf c i) q (winOf c i)) ∗ outWm fi fo d (Finset.univ \ winAll c) q ∅)
      ⊢ outWm fi fo d Finset.univ q (winAll c) := by
  rw [bigSep_congr fun i _ => wm_marks fi fo d (I := winOf c i) (W := winOf c i) (W' := winAll c) fun j hj =>
      ⟨fun _ => Finset.mem_biUnion.mpr ⟨i, Finset.mem_univ _, hj⟩, fun _ => hj⟩,
    wm_marks fi fo d (I := Finset.univ \ winAll c) (W := ∅) (W' := winAll c) fun j hj =>
      ⟨fun h => absurd h (Finset.notMem_empty _), fun h => absurd h (Finset.mem_sdiff.mp hj).2⟩,
    ← wm_windows fi fo d q (winAll c) (winOf c) Finset.univ (winOf_disjoint c)]
  exact (wm_carve fi fo d (Finset.subset_univ (winAll c)) q (winAll c)).2

/-! ## What the call takes and gives back -/

/-- The input whole is the read shares dealt to the tiles. -/
theorem in_deal : (inPts fi d fullShare : sProp 𝕄)
    = bigSep (Finset.univ : Finset (Fin 2)) fun c => bigSep (Finset.univ : Finset (Fin 16)) fun i => inPts fi d (inShare c i) := by
  rw [show (inPts fi d fullShare : sProp 𝕄) = _ from Transfers.pointsTo_deal (Finset.univ : Finset (Fin 2)) ⟨0, Finset.mem_univ _⟩ fullShare]
  exact bigSep_congr fun c _ => Transfers.pointsTo_deal (Finset.univ : Finset (Fin 16)) ⟨0, Finset.mem_univ _⟩ _

/-- What a SparseCore is handed: its tiles' input shares and their windows. -/
theorem goC_eq (c : Fin 2) : goC fi fo d c
    = iprop((bigSep (Finset.univ : Finset (Fin 16)) fun i => inPts fi d (inShare c i))
        ∗ bigSep (Finset.univ : Finset (Fin 16)) fun i => outWm fi fo d (winOf c i) (halfShare c.val) ∅) := by
  unfold goC goL; exact bigSep_sep' _ _ _
/-- What a SparseCore hands back: its tiles' input shares and their windows, every element marked. -/
theorem tdC_eq (c : Fin 2) : tdC fi fo d c
    = iprop((bigSep (Finset.univ : Finset (Fin 16)) fun i => inPts fi d (inShare c i))
        ∗ bigSep (Finset.univ : Finset (Fin 16)) fun i => outWm fi fo d (winOf c i) (halfShare c.val) (winOf c i)) := by
  unfold tdC tdL; exact bigSep_sep' _ _ _

/-- What stays with the TensorCore during the call: the elements neither SparseCore's tiles write, at that one's half. -/
def kept : sProp 𝕄 :=
  iprop(outWm fi fo d (Finset.univ \ winAll 0) fullShare.left ∅ ∗ outWm fi fo d (Finset.univ \ winAll 1) fullShare.right ∅)

/-- The input and the result in write mode are what the two SparseCores take and what is kept. -/
theorem call_take : iprop(inPts fi d fullShare ∗ outWm fi fo d Finset.univ fullShare ∅)
    ⊢ iprop((goC fi fo d 0 ∗ goC fi fo d 1) ∗ kept fi fo d) := by
  rw [in_deal, show (Finset.univ : Finset (Fin 2)) = {0, 1} by decide, SparseCore.bigSep_insert' (by decide), bigSep_singleton,
    goC_eq, goC_eq]
  unfold kept
  iintro ⟨⟨Hi0, Hi1⟩, Ho⟩
  ihave Hh := ((Entails.of_eq (congrArg (outWm fi fo d Finset.univ fullShare) (Finset.union_empty ∅).symm)).trans (wm_halves fi fo d ∅ ∅).1) $$ Ho
  icases Hh with ⟨Hl, Hr⟩
  ihave Hl' := (wm_deal fi fo d 0 fullShare.left) $$ Hl
  ihave Hr' := (wm_deal fi fo d 1 fullShare.right) $$ Hr
  icases Hl' with ⟨Hl, Hkl⟩
  icases Hr' with ⟨Hr, Hkr⟩
  isplitl [Hi0 Hi1 Hl Hr]
  · isplitl [Hi0 Hl]
    · isplitl [Hi0]; · iexact Hi0
      iexact Hl
    · isplitl [Hi1]; · iexact Hi1
      iexact Hr
  isplitl [Hkl]; · iexact Hkl
  iexact Hkr

/-- What the two SparseCores give back and what was kept are the input and the result, every element written. -/
theorem call_give : iprop((tdC fi fo d 0 ∗ tdC fi fo d 1) ∗ kept fi fo d)
    ⊢ iprop(inPts fi d fullShare ∗ outWm fi fo d Finset.univ fullShare Finset.univ) := by
  rw [in_deal, show (Finset.univ : Finset (Fin 2)) = {0, 1} by decide, SparseCore.bigSep_insert' (by decide), bigSep_singleton,
    tdC_eq, tdC_eq]
  unfold kept
  iintro ⟨⟨⟨Hi0, Hl⟩, Hi1, Hr⟩, Hkl, Hkr⟩
  isplitl [Hi0 Hi1]
  · isplitl [Hi0]; · iexact Hi0
    iexact Hi1
  iapply ((wm_halves fi fo d (winAll 0) (winAll 1)).2.trans (Entails.of_eq (congrArg (outWm fi fo d Finset.univ fullShare) winAll_cover)))
  isplitl [Hl Hkl]
  · iapply (wm_back fi fo d 0 fullShare.left)
    isplitl [Hl]; · iexact Hl
    iexact Hkl
  · iapply (wm_back fi fo d 1 fullShare.right)
    isplitl [Hr]; · iexact Hr
    iexact Hkr

end Cert.Proof.KernI

end
-- ==== Proof.KernelIdeal.Launch.lean ====
/-
  The launch: each tile's task meets its obligation, @main runs the call between its two reshapes, and every run of the
  program ends with the arguments unchanged, the result at the boxes of the input, and every semaphore at zero.
-/
module

public import proofs.«01_k».proof.Defs
public import proofs.«01_k».proof.Proof.KernelIdeal.Share
public import Idealize.ShloMosaic.Lib.SparseCore.Quiescent
public import Idealize.ShloMosaic.Lib.StableHlo.Run

@[expose] public section

noncomputable section

namespace Cert.Proof.KernI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F] [Named F]

local notation "𝕄" => MT nD τ sig (HIx 1) (Elt F) ℕ (UU F) ℕ

/-! ## The tiles' obligation and the sequencers' share of the call -/

section Obl

variable (fi : (d : Dev nD) → Buf (Elt F) (inLoc d)) (fo : (d : Dev nD) → Buf (Elt F) (outLoc d))

/-- A tile's run of the call's program is the kernel's body at the tile's coordinates. -/
theorem defs₀_vector (c : Fin τ.nSC) (s : Fin τ.nSub) :
    defs₀ (F := F) (.scVector c s) 0 ()
      = SparseCore.onTile hcore0 hsub0 (fun c s => cc0__roi_body (coordsV c s) aIn (Memref.isWhole_whole _) aOut (Memref.isWhole_whole _)
          s0 (Memref.isWhole_whole _) s1 (Memref.isWhole_whole _) s2 (Memref.isWhole_whole _) s3 (Memref.isWhole_whole _)
          s4 (Memref.isWhole_whole _) cc0_scratch5 cc0_scoped0) ⟨⟩ c s := rfl

omit [FloatOps F] [Named F] in
/-- Waits recorded at no index are waits recorded at none or at the call. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile of the call runs its task. -/
theorem tileObl (hF : (K (F := F)).Facts) : (K (F := F)).TileObl (D (F := F)) 𝒱 (P fi fo) v₀ 0 := by
  intro d c i O W hO _ _
  simp only [show (P (F := F) fi fo).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) fi fo hF (inShare c i) O W hO trivial).trans (wp_mono frame _ _ fun _ => obl_post)

/-- A SparseCore's part of the call is its tiles' parts, going out and coming back. -/
theorem vecSplit : (K (F := F)).VecSplit' (P fi fo) 0 := by
  intro d c
  show goC fi fo d c ⊢ |={Set.univ}=> iprop((bigSep (Finset.univ : Finset (Fin 16)) fun i => goL fi fo d (coordsV c i) (inShare c i))
    ∗ ((bigSep (Finset.univ : Finset (Fin 16)) fun i => tdL fi fo d (coordsV c i) (inShare c i)) -∗ tdC fi fo d c))
  unfold goC tdC
  iintro H; imodintro
  isplitl [H]; · iexact H
  iintro H; iexact H

end Obl

/-! ## The launch element -/

/-- The handshakes' rounds, and write mode with nothing in it. -/
def u₀ : UU F := (initOf (K (F := F)).hsCells (K (F := F)).hsToks, (wm₀ nD τ sig (Elt F), 1))

variable (m : (ℓ : Loc nD τ sig) → Buf (Elt F) ℓ) (ρ : Dev nD → PrngReg)

/-- That write mode is in force may be used any number of times. -/
instance wmOn_persistent : BI.Persistent (wmOn (F := F)) := by unfold wmOn; infer_instance

/-- The launch element gives the handshakes theirs, and write mode in force to every device and thread. -/
theorem hu₀ (m : (ℓ : Loc nD τ sig) → Buf (Elt F) ℓ) (ρ : Dev nD → PrngReg) (fi : (d : Dev nD) → Buf (Elt F) (inLoc d)) (fo : (d : Dev nD) → Buf (Elt F) (outLoc d)) : (ownU (u₀ (F := F)) : sProp 𝕄)
    ⊢ |={Set.univ}=> iprop(BI.own (EH (F := F) (initOf (K (F := F)).hsCells (K (F := F)).hsToks)) ∗ (bigSep Finset.univ fun _ : Dev nD => wmOn (F := F))
        ∗ bigSep Finset.univ fun thr : Thread nD τ => bigSep Finset.univ fun q : Fin 1 => (P (F := F) fi fo).x q thr) := by
  unfold u₀
  iintro Hu
  ihave H := (ownU_pair _ _) $$ Hu
  icases H with ⟨HH, HR⟩
  ihave HR' := (Entails.of_eq (show BI.own (embR (A := UH) (wm₀ nD τ sig (Elt F), (1 : Counters))) = (ownU (emb (F := F) (wm₀ nD τ sig (Elt F))) : sProp 𝕄) from rfl)) $$ HR
  imod (wmInv_alloc (emb := emb (F := F)) ⟨m, fun _ => 0, ρ⟩) $$ HR' with ⟨%ι, H⟩
  ihave #Hinv := (and_elim_r) $$ H
  imodintro
  isplitl [HH]; · iexact HH
  have hw : wmInv (Ix := HIx 1) (Lvl := ℕ) (emb (F := F)) ι ⊢ wmOn (F := F) := by
    unfold wmOn; iintro H; iexists ι; iexact H
  isplitl []
  · iapply (bigSep_intro_persistent (R := wmInv (Ix := HIx 1) (Lvl := ℕ) (emb (F := F)) ι) fun _ _ => hw); iexact Hinv
  · iapply (bigSep_intro_persistent (R := wmInv (Ix := HIx 1) (Lvl := ℕ) (emb (F := F)) ι) fun _ _ => bigSep_intro_persistent fun _ _ => hw); iexact Hinv

/-! ## @main on the TensorCore -/

/-- The TensorCore's five arrays: the two arguments, the call's input and output, the result of @main. -/
abbrev a0' : DevRef τ sig := Proc.devRef .tc (main_arg0 : Ref sig .tc)
abbrev a1' : DevRef τ sig := Proc.devRef .tc (main_arg1 : Ref sig .tc)
abbrev in' : DevRef τ sig := Proc.devRef .tc (main_v0 : Ref sig .tc)
abbrev out' : DevRef τ sig := Proc.devRef .tc (main_v1 : Ref sig .tc)
abbrev res' : DevRef τ sig := Proc.devRef .tc (main_v2 : Ref sig .tc)

/-- The arguments' and the result's locations. -/
abbrev a0Loc (d : Dev nD) : Loc nD τ sig := (SparseCore.T d).loc main_arg0
abbrev a1Loc (d : Dev nD) : Loc nD τ sig := (SparseCore.T d).loc main_arg1
abbrev resLoc (d : Dev nD) : Loc nD τ sig := (SparseCore.T d).loc main_v2

/-- The two reshapes around the call. -/
abbrev opIn : HloOp τ sig (Elt F) := StableHlo.reshape main_arg0 main_v0 (rfl : (.f32 : EltTy) = .f32) shapeCasts_S16x84x8400_S11289600
abbrev opOut : HloOp τ sig (Elt F) := StableHlo.reshape main_v1 main_v2 (rfl : (.f32 : EltTy) = .f32) shapeCasts_S672000_S134400x5

/-- The TensorCore's arrays, all unscoped. -/
abbrev S5 : Finset (DevRef τ sig) := {a0', a1', in', out', res'}

omit [FloatOps F] [Named F] in
/-- Holding the five arrays at a valuation is holding each at its value there. -/
theorem held_S5 (d : Dev nD) (W : Valuation τ sig (Elt F)) :
    (held (T d) S5 W : sProp 𝕄) = iprop((a0Loc d ↦{fullShare} W a0') ∗ (a1Loc d ↦{fullShare} W a1') ∗ (inLoc d ↦{fullShare} W in')
      ∗ (outLoc d ↦{fullShare} W out') ∗ resLoc d ↦{fullShare} W res') := by
  unfold held S5
  rw [SparseCore.bigSep_insert' (by decide), SparseCore.bigSep_insert' (by decide), SparseCore.bigSep_insert' (by decide),
    SparseCore.bigSep_insert' (by decide), bigSep_singleton]

omit [FloatOps F] [Named F] in
/-- The TensorCore's unscoped buffers are the five arrays. -/
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1)
      ∗ (inLoc d ↦{fullShare} W main_v0) ∗ (outLoc d ↦{fullShare} W main_v1) ∗ resLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The arrays at launch, after the first reshape, after the call, and after the second. -/
def V0 (d : Dev nD) : Valuation τ sig (Elt F) := fun b => m (d, b)
def V1 (d : Dev nD) : Valuation τ sig (Elt F) := (opIn (F := F)).result (V0 m d)

/-- The input of the call: the first argument, flattened. -/
def flatIn (d : Dev nD) : Vec F S11289600 .f32 := shapeCast S11289600 (m (a0Loc d)) shapeCasts_S16x84x8400_S11289600
/-- The result array's contents when the call is made. -/
def oldOut (d : Dev nD) : Buf (Elt F) (outLoc d) := m (outLoc d)
/-- The result of @main: the boxes of the flattened argument, at the result's shape. -/
def result (d : Dev nD) : Vec F S134400x5 .f32 := shapeCast S134400x5 (boxes (F := F) (flatIn m d)) shapeCasts_S672000_S134400x5

/-- The arrays after the call: the output at the boxes of the flattened input. -/
def V2 (d : Dev nD) : Valuation τ sig (Elt F) := Function.update (V1 m d) out' (boxes (F := F) (flatIn m d))

/-- The unscoped buffers at launch are the five arrays held at launch. -/
theorem unscoped_held (d : Dev nD) : (unscopedBufs d (fun b => m ((SparseCore.T d).loc b)) : sProp 𝕄) = held (T d) S5 (V0 m d) := by
  rw [unscopedBufs_eq, held_S5]; rfl

/-- The first reshape writes the flattened argument. -/
theorem V1_in (d : Dev nD) : V1 m d in' = flatIn m d := by
  unfold V1
  exact StableHlo.reshape_result _ _ _ _ _ _ _
/-- The first reshape leaves every other array. -/
theorem V1_ne (d : Dev nD) {r : Ref sig .tc} (h : r ≠ main_v0) : V1 m d (Proc.devRef .tc r) = m ((SparseCore.T d).loc r) := by
  unfold V1
  exact StableHlo.reshape_result_ne _ _ _ _ _ _ _ h
/-- The five arrays after the first reshape, one by one. -/
theorem held_V1 (d : Dev nD) : (held (T d) S5 ((opIn (F := F)).result (V0 m d)) : sProp 𝕄) = iprop((a0Loc d ↦{fullShare} m (a0Loc d)) ∗ (a1Loc d ↦{fullShare} m (a1Loc d))
    ∗ (inLoc d ↦{fullShare} flatIn m d) ∗ (outLoc d ↦{fullShare} m (outLoc d)) ∗ resLoc d ↦{fullShare} m (resLoc d)) := by
  rw [show (opIn (F := F)).result (V0 m d) = V1 m d from rfl, held_S5, V1_in, V1_ne m d (r := main_arg0) (by decide), V1_ne m d (r := main_arg1) (by decide), V1_ne m d (r := main_v1) (by decide),
    V1_ne m d (r := main_v2) (by decide)]
/-- After the call the output is the boxes. -/
theorem V2_out (d : Dev nD) : V2 m d out' = boxes (F := F) (flatIn m d) := Function.update_self _ _ _
/-- The call leaves every other array. -/
theorem V2_ne (d : Dev nD) {b : DevRef τ sig} (h : b ≠ out') : V2 m d b = V1 m d b := Function.update_of_ne h _ _
/-- The five arrays after the call, one by one. -/
theorem held_V2 (d : Dev nD) : (held (T d) S5 (V2 m d) : sProp 𝕄) = iprop((a0Loc d ↦{fullShare} m (a0Loc d)) ∗ (a1Loc d ↦{fullShare} m (a1Loc d))
    ∗ (inLoc d ↦{fullShare} flatIn m d) ∗ (outLoc d ↦{fullShare} boxes (F := F) (flatIn m d)) ∗ resLoc d ↦{fullShare} m (resLoc d)) := by
  rw [held_S5, V2_out, V2_ne m d (b := a0') (by decide), V2_ne m d (b := a1') (by decide), V2_ne m d (b := in') (by decide),
    V2_ne m d (b := res') (by decide), V1_in, V1_ne m d (r := main_arg0) (by decide), V1_ne m d (r := main_arg1) (by decide),
    V1_ne m d (r := main_v2) (by decide)]
/-- The second reshape writes the result. -/
theorem V3_res (d : Dev nD) : (opOut (F := F)).result (V2 m d) res' = result m d := by
  refine (StableHlo.reshape_result _ _ _ _ _ _ _).trans ?_
  unfold result
  rw [show V2 m d (Proc.devRef .tc (main_v1 : Ref sig .tc)) = _ from V2_out m d]
  rfl
/-- The second reshape leaves every other array. -/
theorem V3_ne (d : Dev nD) {r : Ref sig .tc} (h : r ≠ main_v2) : (opOut (F := F)).result (V2 m d) (Proc.devRef .tc r) = V2 m d (Proc.devRef .tc r) :=
  StableHlo.reshape_result_ne _ _ _ _ _ _ _ h

/-- The five arrays after the second reshape, one by one. -/
theorem held_V3 (d : Dev nD) : (held (T d) S5 ((opOut (F := F)).result (V2 m d)) : sProp 𝕄) = iprop((a0Loc d ↦{fullShare} m (a0Loc d))
    ∗ (a1Loc d ↦{fullShare} m (a1Loc d)) ∗ (inLoc d ↦{fullShare} flatIn m d) ∗ (outLoc d ↦{fullShare} boxes (F := F) (flatIn m d))
    ∗ resLoc d ↦{fullShare} result m d) := by
  rw [held_S5, V3_res, V3_ne m d (r := main_arg0) (by decide), V3_ne m d (r := main_arg1) (by decide), V3_ne m d (r := main_v0) (by decide),
    V3_ne m d (r := main_v1) (by decide), V2_out, V2_ne m d (b := a0') (by decide), V2_ne m d (b := a1') (by decide), V2_ne m d (b := in') (by decide),
    V1_in, V1_ne m d (r := main_arg0) (by decide), V1_ne m d (r := main_arg1) (by decide)]

/-- The first reshape touches only the five arrays. -/
theorem hIn : (opIn (F := F)).bufs ⊆ S5 := show ({a0', in'} : Finset (DevRef τ sig)) ⊆ S5 by decide
/-- The second reshape touches only the five arrays. -/
theorem hOut : (opOut (F := F)).bufs ⊆ S5 := show ({out', res'} : Finset (DevRef τ sig)) ⊆ S5 by decide

/-- What the call takes for the two SparseCores, and what it hands back. -/
theorem st0_eq (fi : (d : Dev nD) → Buf (Elt F) (inLoc d)) (fo : (d : Dev nD) → Buf (Elt F) (outLoc d)) (d : Dev nD) :
    (bigSep Finset.univ fun c : Fin ((K (F := F)).nCore 0) => (P (F := F) fi fo).st 0 d c) = iprop(goC fi fo d 0 ∗ goC fi fo d 1) := by
  show (bigSep (Finset.univ : Finset (Fin 2)) fun c => goC fi fo d c) = _
  rw [show (Finset.univ : Finset (Fin 2)) = {0, 1} by decide, SparseCore.bigSep_insert' (by decide), bigSep_singleton]
/-- What the call hands back, for the two SparseCores. -/
theorem dn0_eq (fi : (d : Dev nD) → Buf (Elt F) (inLoc d)) (fo : (d : Dev nD) → Buf (Elt F) (outLoc d)) (d : Dev nD) :
    (bigSep Finset.univ fun c : Fin ((K (F := F)).nCore 0) => (P (F := F) fi fo).dn 0 d c) = iprop(tdC fi fo d 0 ∗ tdC fi fo d 1) := by
  show (bigSep (Finset.univ : Finset (Fin 2)) fun c => tdC fi fo d c) = _
  rw [show (Finset.univ : Finset (Fin 2)) = {0, 1} by decide, SparseCore.bigSep_insert' (by decide), bigSep_singleton]

/-- What @main leaves: the arguments as at launch and the result. -/
abbrev FIN (d : Dev nD) : sProp 𝕄 :=
  iprop((a0Loc d ↦{fullShare} m (a0Loc d)) ∗ (a1Loc d ↦{fullShare} m (a1Loc d)) ∗ resLoc d ↦{fullShare} result m d)

omit [FloatOps F] [Named F] in
/-- Every element of an array replaced. -/
theorem pts_univ (ℓ : Loc nD τ sig) (f g : Buf (Elt F) ℓ) [∀ i : ℓ.ty.Idx, Decidable (i ∈ (Finset.univ : Finset ℓ.ty.Idx))] :
    (ℓ ↦{fullShare} (Finset.univ : Finset ℓ.ty.Idx).piecewise g f : sProp 𝕄) ⊢ ℓ ↦{fullShare} g :=
  Entails.of_eq (by rw [show (Finset.univ : Finset ℓ.ty.Idx).piecewise g f = g from funext fun i => Finset.piecewise_eq_of_mem _ _ _ (Finset.mem_univ i)])

/-- @main on device `d`'s TensorCore: the first reshape; the result array into write mode; the call; the result array out
    of write mode, every element written; the second reshape. -/
theorem hmain (κ : GSem nD τ sig → ℕ) (d : Dev nD) :
    iprop((K (F := F)).ctx (EH (F := F)) (P (F := F) (flatIn m) (oldOut m)) κ ∗ (K (F := F)).tcSt (EH (F := F)) d 0 ∗ (K (F := F)).tcRes m ρ d ∗ wmOn (F := F))
      ⊢ wp frame (wpE ((K (F := F)).defs (D (F := F))) 𝒱 (SparseCore.T d) none) Set.univ (main d)
          fun _ => iprop((K (F := F)).tcSt (EH (F := F)) d 1 ∗ FIN m d ∗ (K (F := F)).tcEnd d) := by
  unfold SparseCore.Cfg.tcRes SparseCore.Cfg.tcEnd
  rw [unscoped_held]
  simp only [main, wp_bind, wp_pure]
  unfold wmOn
  iintro ⟨#Hctx, Hst, ⟨Hb, Hheld, Hts, -⟩, %ιw, #Hwm⟩
  iapply (wp_hlo_within 𝒱 (SparseCore.T d) none Set.univ (op := opIn) (S := S5) hIn (V := V0 m d)) $$ [Hb Hheld]
  · isplitl [Hb]; · iexact Hb
    iexact Hheld
  iintro ⟨Hb, Hheld⟩
  rw [wp_ret]; imodintro
  ihave Hh := (Entails.of_eq (held_V1 m d)) $$ Hheld
  icases Hh with ⟨Ha0, Ha1, Hi, Ho, Hr⟩
  imod (pointsTo_castIn (emb := emb (F := F)) (ιwm := ιw) (target (flatIn m) d)) $$ [Ho] with Ho
  · isplitr; · iexact Hwm
    iexact Ho
  ihave Hcall := (call_take (F := F) (flatIn m) (oldOut m) d) $$ [Hi Ho]
  · isplitl [Hi]; · iexact Hi
    iexact Ho
  icases Hcall with ⟨Hgo, Hkept⟩
  iapply ((K (F := F)).wp_run (D (F := F)) 𝒱 (EH := EH (F := F)) (P := P (F := F) (flatIn m) (oldOut m)) κ d 0) $$ [Hst Hgo Hkept Ha0 Ha1 Hr Hb Hts]
  isplitr; · iexact Hctx
  isplitl [Hst]; · iexact Hst
  isplitl [Hgo]
  · rw [st0_eq]; iexact Hgo
  iintro ⟨Hst, Hdn⟩
  ihave Hdn' := (Entails.of_eq (dn0_eq (F := F) (flatIn m) (oldOut m) d)) $$ Hdn
  ihave Hcall := (call_give (F := F) (flatIn m) (oldOut m) d) $$ [Hdn' Hkept]
  · isplitl [Hdn']; · iexact Hdn'
    iexact Hkept
  icases Hcall with ⟨Hi, Ho⟩
  imod (willBeTo_castOut_some (emb := emb (F := F)) (ιwm := ιw) (ℓ := outLoc d) (g := boxes (F := F) (flatIn m d))) $$ [Ho] with Ho
  · isplitr; · iexact Hwm
    iexact Ho
  ihave Ho := (pts_univ (outLoc d) (oldOut m d) (boxes (F := F) (flatIn m d))) $$ Ho
  iapply (wp_hlo_within 𝒱 (SparseCore.T d) none Set.univ (op := opOut) (S := S5) hOut (V := V2 m d)) $$ [Hb Ha0 Ha1 Hi Ho Hr]
  · isplitl [Hb]; · iexact Hb
    rw [held_V2]
    isplitl [Ha0]; · iexact Ha0
    isplitl [Ha1]; · iexact Ha1
    isplitl [Hi]; · iexact Hi
    isplitl [Ho]; · iexact Ho
    iexact Hr
  iintro ⟨Hb, Hheld⟩
  ihave Hh := (Entails.of_eq (held_V3 m d)) $$ Hheld
  icases Hh with ⟨Ha0, Ha1, -, -, Hr⟩
  rw [wp_ret]; imodintro; imodintro
  isplitl [Hst]; · iexact Hst
  isplitr [Hb Hts]
  · isplitl [Ha0]; · iexact Ha0
    isplitl [Ha1]; · iexact Ha1
    iexact Hr
  isplitl [Hb] <;> iassumption

/-- What the final state says of device `d`: arguments as at launch, the result in place. -/
def fq (d : Dev nD) (s' : Phys nD τ sig (Elt F)) : Prop :=
  s'.mem.mem (a0Loc d) = m (a0Loc d) ∧ s'.mem.mem (a1Loc d) = m (a1Loc d) ∧ s'.mem.mem (resLoc d) = result m d

omit [FloatOps F] [Named F] in
/-- An array held whole has the contents the state gives it. -/
theorem read_whole (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- What @main leaves on a device says that of the final state. -/
theorem hfin (d : Dev nD) (s' : Phys nD τ sig (Elt F)) : iprop(FIN m d ∗ SI s') ⊢ (⌜fq m d s'⌝ : sProp 𝕄) := by
  have h0 : iprop(FIN m d ∗ SI s') ⊢ (⌜s'.mem.mem (a0Loc d) = m (a0Loc d)⌝ : sProp 𝕄) := by
    iintro ⟨⟨H0, -, -⟩, HSI⟩
    iapply (read_whole s' (a0Loc d) _)
    isplitl [H0] <;> iassumption
  have h1 : iprop(FIN m d ∗ SI s') ⊢ (⌜s'.mem.mem (a1Loc d) = m (a1Loc d)⌝ : sProp 𝕄) := by
    iintro ⟨⟨-, H0, -⟩, HSI⟩
    iapply (read_whole s' (a1Loc d) _)
    isplitl [H0] <;> iassumption
  have h2 : iprop(FIN m d ∗ SI s') ⊢ (⌜s'.mem.mem (resLoc d) = result m d⌝ : sProp 𝕄) := by
    iintro ⟨⟨-, -, H0⟩, HSI⟩
    iapply (read_whole s' (resLoc d) _)
    isplitl [H0] <;> iassumption
  exact Laws.pure_elim _ h0 fun e0 => Laws.pure_elim _ h1 fun e1 => Laws.pure_elim _ h2 fun e2 => BI.pure_intro ⟨e0, e1, e2⟩

/-! ## The program's run and the frame claim -/

/-- Arguments unchanged, the result at the boxes of the first argument, every semaphore at zero. -/
def QC : PUnit × MemSt nD τ sig (Elt F) → Prop := fun r =>
  (∀ d : Dev nD, r.2.mem (a0Loc d) = m (a0Loc d) ∧ r.2.mem (a1Loc d) = m (a1Loc d) ∧ r.2.mem (resLoc d) = result m d) ∧ r.2.sem = fun _ => 0

/-- Every run of the program from zero semaphores ends so. -/
theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH (F := F)) (P := P (F := F) (flatIn m) (oldOut m)) (A := ∅) facts v₀
    (fun q hq => match q with | 0 => nomatch hq)
    (fun q _ => match q with | 0 => tileObl (flatIn m) (oldOut m) facts)
    (fun q _ => match q with | 0 => SparseCore.Cfg.VecSplit.of_plain (vecSplit (flatIn m) (oldOut m)))
    m ρ main (fun _ => wmOn (F := F)) (FIN m) (u₀ (F := F)) (sep_elim_left.trans (hu₀ m ρ (flatIn m) (oldOut m))) (hmain m ρ) (fq m) (hfin m) (QC m) (fun _ h hz => ⟨h, hz⟩)

/-- `Cert.quiescent_KernelIdeal` (Defs.lean). -/
theorem frame : Cert.quiescent_KernelIdeal := fun m ρ _ =>
  (θ_run Cert.KernelIdeal.defs _ _).mono (fun _ h => ⟨fun c => ⟨(h.1 c).1, (h.1 c).2.1⟩, h.2⟩) (run_main (F := Ideal) m ρ)

end Cert.Proof.KernI

end
-- ==== Proof.Reference.lean ====
/-
  The reference's result, element by element: row `8400 b + c` of the result is the batch number `b`, then the four corner
  coordinates of candidate `c`'s box in batch `b`, each clipped.
-/
module

public import proofs.«01_k».proof.Proof.Gen.ReferenceIdeal.Run
public import Idealize.ShloMosaic.Lib.Pipeline.Value

@[expose] public section

noncomputable section

namespace Cert.Proof.Ref

open Cert.ReferenceIdeal Cert.ReferenceIdeal.Gen
open Idealize.ShloMosaic

variable {F : FTy → Type} [FloatOps F]

/-- One coordinate interval, lower end: the lesser of `(x ∓ w/2) / 80`, clipped to `[0, 1]`. -/
def lower (x w : F .f32) : F .f32 :=
  FloatOps.minimumf (FloatOps.ofBits .f32 0x3F800000#32) (FloatOps.maximumf (FloatOps.ofBits .f32 0x00000000#32) (FloatOps.minimumf
    (FloatOps.hostDivf (FloatOps.subf x (FloatOps.mulf w (FloatOps.ofBits .f32 0x3F000000#32))) (FloatOps.ofBits .f32 0x42A00000#32))
    (FloatOps.hostDivf (FloatOps.addf x (FloatOps.mulf w (FloatOps.ofBits .f32 0x3F000000#32))) (FloatOps.ofBits .f32 0x42A00000#32))))

/-- One coordinate interval, upper end: the greater of `(x ∓ w/2) / 80`, clipped to `[0, 1]`. -/
def upper (x w : F .f32) : F .f32 :=
  FloatOps.minimumf (FloatOps.ofBits .f32 0x3F800000#32) (FloatOps.maximumf (FloatOps.ofBits .f32 0x00000000#32) (FloatOps.maximumf
    (FloatOps.hostDivf (FloatOps.subf x (FloatOps.mulf w (FloatOps.ofBits .f32 0x3F000000#32))) (FloatOps.ofBits .f32 0x42A00000#32))
    (FloatOps.hostDivf (FloatOps.addf x (FloatOps.mulf w (FloatOps.ofBits .f32 0x3F000000#32))) (FloatOps.ofBits .f32 0x42A00000#32))))

/-- The index of row `r`, candidate `c` of batch `b` in the first argument. -/
def at3 (b : Fin 16) (r : Fin 84) (c : Fin 8400) : S16x84x8400.Idx
  | 0 => b
  | 1 => r
  | 2 => c

/-- The index of candidate `c` of batch `b`. -/
def at2 (b : Fin 16) (c : Fin 8400) : S16x8400.Idx
  | 0 => b
  | 1 => c

/-- Row `r` of the first argument, for every batch, as the reference takes it: two slices and a reshape. -/
def row (X : Vec F S16x84x8400 .f32) (r : ℕ) (h : S16x4x8400.Slices ![0, r, 0] S16x1x8400) : Vec F S16x8400 .f32 :=
  shapeCast S16x8400 (extractStridedSlice S16x1x8400 ![0, r, 0]
    (extractStridedSlice S16x4x8400 ![0, 0, 0] X slices_S16x84x8400_S16x4x8400_0_0_0) h) shapeCasts_S16x1x8400_S16x8400

/-- The slice of row `r`, at batch `b` and candidate `c`, is the first argument there. -/
theorem row_apply (X : Vec F S16x84x8400 .f32) (r : Fin 84) (hr : r.val < 4) (h : S16x4x8400.Slices ![0, r.val, 0] S16x1x8400)
    (b : Fin 16) (c : Fin 8400) : row X r.val h (at2 b c) = X (at3 b r c) := by
  unfold row
  let k1 : S16x1x8400.Idx := fun | 0 => b | 1 => (0 : Fin 1) | 2 => c
  let k2 : S16x4x8400.Idx := fun | 0 => b | 1 => (⟨r.val, hr⟩ : Fin 4) | 2 => c
  rw [shapeCast_apply _ _ (at2 b c) k1 (by
    rw [Shape.rowMajor_val_three, Shape.rowMajor_val_two]
    show (b.val * 1 + 0) * 8400 + c.val = b.val * 8400 + c.val
    omega)]
  rw [extractStridedSlice_apply _ _ h k1 k2 (by
    intro a
    match a with
    | 0 => show b.val = 0 + b.val; omega
    | 1 => show r.val = r.val + 0; omega
    | 2 => show c.val = 0 + c.val; omega)]
  exact extractStridedSlice_apply _ _ _ k2 (at3 b r c) (by
    intro a
    match a with
    | 0 => show b.val = 0 + b.val; omega
    | 1 => show r.val = 0 + r.val; omega
    | 2 => show c.val = 0 + c.val; omega)

/-- The five columns of the result, before they are put side by side. -/
def cols (X : Vec F S16x84x8400 .f32) (k : ℕ) : Vec F S16x8400 .f32 :=
  match k with
  | 0 => broadcastInDim S16x8400 ![0, 1] bcast_S16x1_S16x8400_0_1 (broadcastInDim S16x1 ![0] bcast_S16_S16x1_0 (sitofp .f32 (iotaInDim S16 32 0)))
  | 1 => fun j => lower (row X 0 slices_S16x4x8400_S16x1x8400_0_0_0 j) (row X 2 slices_S16x4x8400_S16x1x8400_0_2_0 j)
  | 2 => fun j => lower (row X 1 slices_S16x4x8400_S16x1x8400_0_1_0 j) (row X 3 slices_S16x4x8400_S16x1x8400_0_3_0 j)
  | 3 => fun j => upper (row X 0 slices_S16x4x8400_S16x1x8400_0_0_0 j) (row X 2 slices_S16x4x8400_S16x1x8400_0_2_0 j)
  | _ => fun j => upper (row X 1 slices_S16x4x8400_S16x1x8400_0_1_0 j) (row X 3 slices_S16x4x8400_S16x1x8400_0_3_0 j)

/-- A column, as the reference puts it beside the others. -/
abbrev slab (X : Vec F S16x84x8400 .f32) (k : ℕ) : Vec F S16x8400x1 .f32 :=
  broadcastInDim S16x8400x1 ![0, 1] bcast_S16x8400_S16x8400x1_0_1 (cols X k)

/-- The five columns, in order. -/
abbrev pieces (X : Vec F S16x84x8400 .f32) : List ((s : Shape) × (s.Idx → F .f32)) :=
  [⟨S16x8400x1, slab X 0⟩, ⟨S16x8400x1, slab X 1⟩, ⟨S16x8400x1, slab X 2⟩, ⟨S16x8400x1, slab X 3⟩, ⟨S16x8400x1, slab X 4⟩]

/-- The reference's result is the five columns side by side. -/
theorem res_eq (m : (ℓ : Loc nD τ sig) → Buf (Elt F) ℓ) (d : Dev nD) (X : Vec F S16x84x8400 .f32)
    (hX : m ((d.tc : Thread nD τ).loc main_arg0) = X) :
    Cert.ReferenceIdeal.Value.res_out0 m d = shapeCast S134400x5 (concatenate S16x8400x5 2 (pieces X)
      concatenates_S16x8400x1_S16x8400x1_S16x8400x1_S16x8400x1_S16x8400x1_S16x8400x5_d2) shapeCasts_S16x8400x5_S134400x5 := by
  subst hX
  rfl

/-- A column set beside the others is the column at its first two coordinates. -/
theorem slab_apply (X : Vec F S16x84x8400 .f32) (k : ℕ) (i : S16x8400x1.Idx) : slab X k i = cols X k (at2 (i 0) (i 1)) :=
  broadcastInDim_apply _ _ _ _ _ (by
    intro a
    match a with
    | 0 => rfl
    | 1 => rfl)

/-- Element `k` of a row of the result is column `k` at the row's batch and candidate. -/
theorem res_apply (m : (ℓ : Loc nD τ sig) → Buf (Elt F) ℓ) (d : Dev nD) (X : Vec F S16x84x8400 .f32)
    (hX : m ((d.tc : Thread nD τ).loc main_arg0) = X) (b : Fin 16) (c : Fin 8400) (i : S134400x5.Idx) (hi : (i 0).val = b.val * 8400 + c.val) :
    Cert.ReferenceIdeal.Value.res_out0 m d i = cols X (i 1).val (at2 b c) := by
  rw [res_eq m d X hX]
  let k3 : S16x8400x5.Idx := fun | 0 => b | 1 => c | 2 => i 1
  rw [shapeCast_apply _ _ i k3 (by
    rw [Shape.rowMajor_val_three, Shape.rowMajor_val_two]
    show (b.val * 8400 + c.val) * 5 + (i 1).val = (i 0).val * 5 + (i 1).val
    omega)]
  let k1 : S16x8400x1.Idx := fun | 0 => b | 1 => c | 2 => (0 : Fin 1)
  have piece : ∀ (k : ℕ) (hk : k < 5), (i 1).val = k →
      (pieces X)[k]'hk = ⟨S16x8400x1, slab X k⟩ →
      ((((pieces X).take k).map (·.1)).map fun s => if h : s.rank = S16x8400x5.rank then s.size ((2 : Fin 3).cast h.symm) else 0).sum = k →
      concatenate S16x8400x5 2 (pieces X)
        concatenates_S16x8400x1_S16x8400x1_S16x8400x1_S16x8400x1_S16x8400x1_S16x8400x5_d2 k3 = cols X (i 1).val (at2 b c) := by
    intro k hk hik hx hs
    rw [concatenate_apply_piece (t := S16x8400x5) 2 (pieces X) _ k3 k hk S16x8400x1 (slab X k) hx rfl k hs k1
      (by
        intro a ha
        match a with
        | 0 => rfl
        | 1 => rfl
        | 2 => exact absurd rfl ha)
      (by show k + 0 = (i 1).val; omega), slab_apply, hik]
  have h5 : (i 1).val < 5 := (i 1).isLt
  rcases (by omega : (i 1).val = 0 ∨ (i 1).val = 1 ∨ (i 1).val = 2 ∨ (i 1).val = 3 ∨ (i 1).val = 4) with h | h | h | h | h
  · exact piece 0 (by decide) h rfl rfl
  · exact piece 1 (by decide) h rfl rfl
  · exact piece 2 (by decide) h rfl rfl
  · exact piece 3 (by decide) h rfl rfl
  · exact piece 4 (by decide) h rfl rfl

/-- The first column is the batch number. -/
theorem cols_zero (X : Vec F S16x84x8400 .f32) (b : Fin 16) (c : Fin 8400) :
    cols X 0 (at2 b c) = FloatOps.sitofp .f32 (BitVec.ofNat 32 b.val) := rfl

end Cert.Proof.Ref

end
-- ==== Proof.Algebra.lean ====
/-
  The kernel's result and the reference's are equal as extended reals: a product with 1/80 is a quotient by 80, and every
  other operation is the same one on the same elements.
-/
module

public import proofs.«01_k».proof.Proof.Reference
public import proofs.«01_k».proof.Proof.KernelIdeal.Launch
public import Idealize.ShloMosaic.PureOps.IdealRules
public import Idealize.ShloMosaic.Lib.IdealHost

@[expose] public section

noncomputable section

namespace Cert.Proof.Algebra

open Cert.KernelIdeal Cert.KernelIdeal.Gen Cert.Proof.KernI
open Idealize.ShloMosaic

/-- The f32 pattern of the reference's divisor is 80. -/
theorem eighty : Ideal.ofBits .f32 0x42A00000#32 = ((80 : ℝ) : EReal) := by
  simp [Ideal.ofBits, Ideal.ieee, -EReal.coe_mul]; norm_num

/-- The kernel's named constant is the reciprocal of 80. -/
theorem inv_eighty : Named.named (F := Ideal) κ "inv80" (φ := .f32) 0x3C4CCCCD#32 = ((80⁻¹ : ℝ) : EReal) :=
  IdealRules.named_const.ideal_named_scalar _ _ _ _ rfl

/-- A product with the kernel's constant is the reference's quotient. -/
theorem mul_inv (y : Ideal .f32) : FloatOps.mulf y (Named.named (F := Ideal) κ "inv80" (φ := .f32) 0x3C4CCCCD#32)
    = FloatOps.hostDivf y (FloatOps.ofBits .f32 0x42A00000#32) := by
  rw [inv_eighty, Ideal.hostDivf_def, Ideal.ofBits_def, eighty, Ideal.div_coe (by norm_num), one_div]
  rfl

/-- Field 0 is the batch number as a float. -/
theorem field_zero (b : BitVec 32) (cx cy w h : Ideal .f32) : field b cx cy w h 0 = FloatOps.sitofp .f32 b := rfl

/-- Field 1 is the reference's lower end across. -/
theorem field_one (b : BitVec 32) (cx cy w h : Ideal .f32) : field b cx cy w h 1 = Ref.lower cx w := by
  unfold Ref.lower
  rw [← mul_inv, ← mul_inv]
  rfl
/-- Field 2 is the reference's lower end down. -/
theorem field_two (b : BitVec 32) (cx cy w h : Ideal .f32) : field b cx cy w h 2 = Ref.lower cy h := by
  unfold Ref.lower
  rw [← mul_inv, ← mul_inv]
  rfl
/-- Field 3 is the reference's upper end across. -/
theorem field_three (b : BitVec 32) (cx cy w h : Ideal .f32) : field b cx cy w h 3 = Ref.upper cx w := by
  unfold Ref.upper
  rw [← mul_inv, ← mul_inv]
  rfl
/-- Field 4 is the reference's upper end down. -/
theorem field_four (b : BitVec 32) (cx cy w h : Ideal .f32) : field b cx cy w h 4 = Ref.upper cy h := by
  unfold Ref.upper
  rw [← mul_inv, ← mul_inv]
  rfl

/-- The flattened argument at the position of row `r`, candidate `c` of batch `b`. -/
theorem flat_apply (X : Vec Ideal S16x84x8400 .f32) (b : Fin 16) (r : Fin 84) (c : Fin 8400) :
    shapeCast S11289600 X shapeCasts_S16x84x8400_S11289600 (srcIx (srcPos b.val r.val c.val)) = X (Ref.at3 b r c) :=
  shapeCast_apply _ _ _ _ (by
    rw [Shape.rowMajor_val_three, Shape.rowMajor_val_one]
    show (b.val * 84 + r.val) * 8400 + c.val = ((b.val * 84 + r.val) * 8400 + c.val) % 11289600
    have := b.isLt; have := r.isLt; have := c.isLt
    omega)

/-- The kernel's result at row `8400 b + c`, column `k`: field `k` of candidate `c`'s box in batch `b`. -/
theorem ker_apply (X : Vec Ideal S16x84x8400 .f32) (b : Fin 16) (c : Fin 8400) (i : S134400x5.Idx) (hi : (i 0).val = b.val * 8400 + c.val) :
    shapeCast S134400x5 (boxes (F := Ideal) (shapeCast S11289600 X shapeCasts_S16x84x8400_S11289600)) shapeCasts_S672000_S134400x5 i
      = field (F := Ideal) (BitVec.ofNat 32 b.val) (X (Ref.at3 b 0 c)) (X (Ref.at3 b 1 c)) (X (Ref.at3 b 2 c)) (X (Ref.at3 b 3 c)) (i 1).val := by
  have hb := b.isLt
  have hc := c.isLt
  have h5 : (i 1).val < 5 := (i 1).isLt
  have hn : (b.val * 8400 + c.val) * 5 + (i 1).val < 672000 := by omega
  let k : S672000.Idx := fun | 0 => ⟨(b.val * 8400 + c.val) * 5 + (i 1).val, hn⟩
  rw [shapeCast_apply _ _ i k (by
    rw [Shape.rowMajor_val_one, Shape.rowMajor_val_two]
    show (b.val * 8400 + c.val) * 5 + (i 1).val = (i 0).val * 5 + (i 1).val
    rw [hi])]
  have e1 : ((b.val * 8400 + c.val) * 5 + (i 1).val) / 42000 = b.val := by omega
  have e2 : ((b.val * 8400 + c.val) * 5 + (i 1).val) % 42000 / 5 = c.val := by omega
  have e3 : ((b.val * 8400 + c.val) * 5 + (i 1).val) % 5 = (i 1).val := by omega
  unfold boxes
  dsimp only [k]
  rw [e1, e2, e3]
  have f0 := flat_apply X b 0 c
  have f1 := flat_apply X b 1 c
  have f2 := flat_apply X b 2 c
  have f3 := flat_apply X b 3 c
  rw [show srcPos b.val 0 c.val = srcPos b.val (0 : Fin 84).val c.val from rfl, show srcPos b.val 1 c.val = srcPos b.val (1 : Fin 84).val c.val from rfl,
    show srcPos b.val 2 c.val = srcPos b.val (2 : Fin 84).val c.val from rfl, show srcPos b.val 3 c.val = srcPos b.val (3 : Fin 84).val c.val from rfl,
    f0, f1, f2, f3]

/-- The reference's columns are the kernel's fields. -/
theorem cols_field (X : Vec Ideal S16x84x8400 .f32) (b : Fin 16) (c : Fin 8400) (k : ℕ) (hk : k < 5) :
    Ref.cols (F := Ideal) X k (Ref.at2 b c)
      = field (F := Ideal) (BitVec.ofNat 32 b.val) (X (Ref.at3 b 0 c)) (X (Ref.at3 b 1 c)) (X (Ref.at3 b 2 c)) (X (Ref.at3 b 3 c)) k := by
  have r0 := Ref.row_apply (F := Ideal) X 0 (by decide) Cert.ReferenceIdeal.Gen.slices_S16x4x8400_S16x1x8400_0_0_0 b c
  have r1 := Ref.row_apply (F := Ideal) X 1 (by decide) Cert.ReferenceIdeal.Gen.slices_S16x4x8400_S16x1x8400_0_1_0 b c
  have r2 := Ref.row_apply (F := Ideal) X 2 (by decide) Cert.ReferenceIdeal.Gen.slices_S16x4x8400_S16x1x8400_0_2_0 b c
  have r3 := Ref.row_apply (F := Ideal) X 3 (by decide) Cert.ReferenceIdeal.Gen.slices_S16x4x8400_S16x1x8400_0_3_0 b c
  rcases (by omega : k = 0 ∨ k = 1 ∨ k = 2 ∨ k = 3 ∨ k = 4) with rfl | rfl | rfl | rfl | rfl
  · exact (Ref.cols_zero X b c).trans (field_zero _ _ _ _ _).symm
  · rw [field_one, ← r0, ← r2]; rfl
  · rw [field_two, ← r1, ← r3]; rfl
  · rw [field_three, ← r0, ← r2]; rfl
  · rw [field_four, ← r1, ← r3]; rfl

/-- The kernel's result is the reference's. -/
theorem result_eq (m : (ℓ : Loc nD τ sig) → Buf (Elt Ideal) ℓ) (d : Dev nD)
    (m' : (ℓ : Loc Cert.ReferenceIdeal.nD Cert.ReferenceIdeal.τ Cert.ReferenceIdeal.sig) → Buf (Elt Ideal) ℓ)
    (h : m' ((d.tc : Thread Cert.ReferenceIdeal.nD Cert.ReferenceIdeal.τ).loc Cert.ReferenceIdeal.main_arg0) = m (a0Loc d)) :
    Cert.ReferenceIdeal.Value.res_out0 m' d = result (F := Ideal) m d := by
  funext i
  have hi : (i 0).val < 134400 := (i 0).isLt
  have hs : (i 0).val = (i 0).val / 8400 * 8400 + (i 0).val % 8400 := by omega
  let b : Fin 16 := ⟨(i 0).val / 8400, by omega⟩
  let c : Fin 8400 := ⟨(i 0).val % 8400, by omega⟩
  exact (Ref.res_apply m' d (m (a0Loc d)) h b c i hs).trans
    ((cols_field (m (a0Loc d)) b c (i 1).val (i 1).isLt).trans (ker_apply (m (a0Loc d)) b c i hs).symm)

/-- `Cert.algebraic_KernelIdeal_ReferenceIdeal` (Defs.lean). -/
theorem algebraic : Cert.algebraic_KernelIdeal_ReferenceIdeal := fun m g m' g' _ hm =>
  ⟨fun d => result (F := Ideal) m d,
    (θ_run Cert.KernelIdeal.defs _ _).mono (fun _ h d => ⟨(h.1 d).2.2, (h.1 d).1, (h.1 d).2.1⟩) (run_main (F := Ideal) m g),
    (θ_run Cert.ReferenceIdeal.defs _ _).mono (fun _ h d => ⟨(h d).1.trans (result_eq m d m' (hm d).1), (h d).2.1, (h d).2.2⟩)
      (Cert.ReferenceIdeal.Value.run (F := Ideal) m' g')⟩

/-- `Cert.preserves_Kernel_KernelIdeal` (Defs.lean). -/
theorem preserves : Cert.preserves_Kernel_KernelIdeal :=
  IdealRules.named_const.statement Cert.KernelIdeal.κ "inv80" .f32 0x3C4CCCCD#32 ((80⁻¹ : ℝ) : EReal) rfl

/-- `Cert.quiescent_ReferenceIdeal` (Defs.lean): the reference has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Algebra

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Algebra
public import Idealize.ShloMosaic.Adequacy
public import Idealize.ShloMosaic.Init

@[expose] public section

noncomputable section

namespace Cert.Proof

open Idealize.ShloMosaic Idealize.SL.Sem

/-- Everything claimed: the three frames, the named constant, and equal results. -/
theorem claim : Cert.Claim :=
  ⟨Cert.Kernel.Gen.facts, Cert.KernelIdeal.Gen.facts, Cert.ReferenceIdeal.Gen.facts,
    Kern.frame, KernI.frame, Algebra.frame_reference, Algebra.preserves, Algebra.algebraic⟩

end Cert.Proof

end
